-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S3x512x512 : Shape := ⟨3, ![3, 512, 512]⟩
abbrev S24 : Shape := ⟨1, ![24]⟩
abbrev S_ : Shape := ⟨0, ![]⟩
abbrev S1 : Shape := ⟨1, ![1]⟩
abbrev S1x512x256 : Shape := ⟨3, ![1, 512, 256]⟩
abbrev S512x256 : Shape := ⟨2, ![512, 256]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .local _ .vmem, ⟨0, _⟩ => ⟨S2048x1024, .f32⟩
  | .local _ .vmem, ⟨1, _⟩ => ⟨S2048x1024, .f32⟩
  | .local _ .vmem, ⟨2, _⟩ => ⟨S3x512x512, .f32⟩
  | .local _ .vmem, ⟨3, _⟩ => ⟨S3x512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v31 : BitVec 32 := Scalar.muli v2 c512_i32
  let c0_i32_27 : BitVec 32 := 0#32
  ![v31.toNat, 0]
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_23 : BitVec 32 := 1#32
  let v32 : BitVec 32 := Scalar.muli v25 c1_i32_23
  let v33 : BitVec 32 := Scalar.addi c0_i32_24 v32
  v33.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_28 : BitVec 32 := 512#32
  let v41 : BitVec 32 := Scalar.muli v2 c512_i32_28
  let c512_i32_36 : BitVec 32 := 512#32
  ![v41.toNat, 512]
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_32 : BitVec 32 := 1#32
  let v42 : BitVec 32 := Scalar.muli v14 c1_i32_32
  let v43 : BitVec 32 := Scalar.addi c0_i32_33 v42
  v43.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_37 : BitVec 32 := 512#32
  let v51 : BitVec 32 := Scalar.muli v2 c512_i32_37
  let c256_i32_44 : BitVec 32 := 256#32
  ![v51.toNat, 256]
def k0_dev5 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_41 : BitVec 32 := 1#32
  let v52 : BitVec 32 := Scalar.muli v25 c1_i32_41
  let v53 : BitVec 32 := Scalar.addi c0_i32_42 v52
  v53.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_45 : BitVec 32 := 512#32
  let v61 : BitVec 32 := Scalar.muli v2 c512_i32_45
  let c768_i32 : BitVec 32 := 768#32
  ![v61.toNat, 768]
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_48 : BitVec 32 := 1#32
  let v62 : BitVec 32 := Scalar.muli v14 c1_i32_48
  let v63 : BitVec 32 := Scalar.addi c0_i32_49 v62
  v63.toNat
def k0_off5 (d0 : Dev nD) (c0_i32_61 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_60 : BitVec 32 := 4#32
  let v78 : BitVec 32 := Scalar.addi v2 c4_i32_60
  let v79 : BitVec 32 := Scalar.subi v78 c0_i32_61
  let c1_i32_62 : BitVec 32 := 1#32
  let v80 : BitVec 32 := Scalar.subi v79 c1_i32_62
  let c4_i32_63 : BitVec 32 := 4#32
  let c0_i32_64 : BitVec 32 := 0#32
  let v81 : BitVec 1 := Scalar.cmpi .eq c4_i32_63 c0_i32_64
  let c1_i32_65 : BitVec 32 := 1#32
  let v82 : BitVec 32 := Scalar.select v81 c1_i32_65 c4_i32_63
  let v83 : BitVec 32 := Scalar.remsi v80 v82
  let c0_i32_67 : BitVec 32 := 0#32
  let v85 : BitVec 1 := Scalar.cmpi .slt v83 c0_i32_67
  let c0_i32_68 : BitVec 32 := 0#32
  let v86 : BitVec 1 := Scalar.cmpi .slt v82 c0_i32_68
  let v87 : BitVec 1 := Scalar.xori v85 v86
  let c0_i32_66 : BitVec 32 := 0#32
  let v84 : BitVec 1 := Scalar.cmpi .ne v83 c0_i32_66
  let v88 : BitVec 1 := Scalar.andi v87 v84
  let v89 : BitVec 32 := Scalar.addi v83 v82
  let v90 : BitVec 32 := Scalar.select v88 v89 v83
  let c512_i32_71 : BitVec 32 := 512#32
  let v93 : BitVec 32 := Scalar.muli v90 c512_i32_71
  let v94 : Index := Scalar.indexCast v93
  let c0_72 : Index := 0#32
  ![v94.toNat, 0]
def k0_dev7 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_80 : BitVec 32 := 1#32
  let v101 : BitVec 32 := Scalar.muli v25 c1_i32_80
  let v102 : BitVec 32 := Scalar.addi c0_i32_81 v101
  v102.toNat
def k0_off6 (d0 : Dev nD) (c0_i32_94 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v118 : BitVec 32 := Scalar.addi v2 c0_i32_94
  let c1_i32_95 : BitVec 32 := 1#32
  let v119 : BitVec 32 := Scalar.addi v118 c1_i32_95
  let c4_i32_96 : BitVec 32 := 4#32
  let c0_i32_97 : BitVec 32 := 0#32
  let v120 : BitVec 1 := Scalar.cmpi .eq c4_i32_96 c0_i32_97
  let c1_i32_98 : BitVec 32 := 1#32
  let v121 : BitVec 32 := Scalar.select v120 c1_i32_98 c4_i32_96
  let v122 : BitVec 32 := Scalar.remsi v119 v121
  let c0_i32_100 : BitVec 32 := 0#32
  let v124 : BitVec 1 := Scalar.cmpi .slt v122 c0_i32_100
  let c0_i32_101 : BitVec 32 := 0#32
  let v125 : BitVec 1 := Scalar.cmpi .slt v121 c0_i32_101
  let v126 : BitVec 1 := Scalar.xori v124 v125
  let c0_i32_99 : BitVec 32 := 0#32
  let v123 : BitVec 1 := Scalar.cmpi .ne v122 c0_i32_99
  let v127 : BitVec 1 := Scalar.andi v126 v123
  let v128 : BitVec 32 := Scalar.addi v122 v121
  let v129 : BitVec 32 := Scalar.select v127 v128 v122
  let c512_i32_105 : BitVec 32 := 512#32
  let v132 : BitVec 32 := Scalar.muli v129 c512_i32_105
  let v133 : Index := Scalar.indexCast v132
  let c512 : Index := 512#32
  ![v133.toNat, 512]
def k0_dev8 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_112 : BitVec 32 := 1#32
  let v140 : BitVec 32 := Scalar.muli v14 c1_i32_112
  let v141 : BitVec 32 := Scalar.addi c0_i32_113 v140
  v141.toNat
def k0_off7 (d0 : Dev nD) (c0_i32_127 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_126 : BitVec 32 := 4#32
  let v157 : BitVec 32 := Scalar.addi v2 c4_i32_126
  let v158 : BitVec 32 := Scalar.subi v157 c0_i32_127
  let c1_i32_128 : BitVec 32 := 1#32
  let v159 : BitVec 32 := Scalar.subi v158 c1_i32_128
  let c4_i32_129 : BitVec 32 := 4#32
  let c0_i32_130 : BitVec 32 := 0#32
  let v160 : BitVec 1 := Scalar.cmpi .eq c4_i32_129 c0_i32_130
  let c1_i32_131 : BitVec 32 := 1#32
  let v161 : BitVec 32 := Scalar.select v160 c1_i32_131 c4_i32_129
  let v162 : BitVec 32 := Scalar.remsi v159 v161
  let c0_i32_133 : BitVec 32 := 0#32
  let v164 : BitVec 1 := Scalar.cmpi .slt v162 c0_i32_133
  let c0_i32_134 : BitVec 32 := 0#32
  let v165 : BitVec 1 := Scalar.cmpi .slt v161 c0_i32_134
  let v166 : BitVec 1 := Scalar.xori v164 v165
  let c0_i32_132 : BitVec 32 := 0#32
  let v163 : BitVec 1 := Scalar.cmpi .ne v162 c0_i32_132
  let v167 : BitVec 1 := Scalar.andi v166 v163
  let v168 : BitVec 32 := Scalar.addi v162 v161
  let v169 : BitVec 32 := Scalar.select v167 v168 v162
  let c512_i32_137 : BitVec 32 := 512#32
  let v172 : BitVec 32 := Scalar.muli v169 c512_i32_137
  let v173 : Index := Scalar.indexCast v172
  let c256_138 : Index := 256#32
  ![v173.toNat, 256]
def k0_dev9 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_145 : BitVec 32 := 1#32
  let v180 : BitVec 32 := Scalar.muli v25 c1_i32_145
  let v181 : BitVec 32 := Scalar.addi c0_i32_146 v180
  v181.toNat
def k0_off8 (d0 : Dev nD) (c0_i32_159 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v197 : BitVec 32 := Scalar.addi v2 c0_i32_159
  let c1_i32_160 : BitVec 32 := 1#32
  let v198 : BitVec 32 := Scalar.addi v197 c1_i32_160
  let c4_i32_161 : BitVec 32 := 4#32
  let c0_i32_162 : BitVec 32 := 0#32
  let v199 : BitVec 1 := Scalar.cmpi .eq c4_i32_161 c0_i32_162
  let c1_i32_163 : BitVec 32 := 1#32
  let v200 : BitVec 32 := Scalar.select v199 c1_i32_163 c4_i32_161
  let v201 : BitVec 32 := Scalar.remsi v198 v200
  let c0_i32_165 : BitVec 32 := 0#32
  let v203 : BitVec 1 := Scalar.cmpi .slt v201 c0_i32_165
  let c0_i32_166 : BitVec 32 := 0#32
  let v204 : BitVec 1 := Scalar.cmpi .slt v200 c0_i32_166
  let v205 : BitVec 1 := Scalar.xori v203 v204
  let c0_i32_164 : BitVec 32 := 0#32
  let v202 : BitVec 1 := Scalar.cmpi .ne v201 c0_i32_164
  let v206 : BitVec 1 := Scalar.andi v205 v202
  let v207 : BitVec 32 := Scalar.addi v201 v200
  let v208 : BitVec 32 := Scalar.select v206 v207 v201
  let c512_i32_170 : BitVec 32 := 512#32
  let v211 : BitVec 32 := Scalar.muli v208 c512_i32_170
  let v212 : Index := Scalar.indexCast v211
  let c768 : Index := 768#32
  ![v212.toNat, 768]
def k0_dev10 (d0 : Dev nD) : Nat :=
  let c0_i32_178 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_177 : BitVec 32 := 1#32
  let v219 : BitVec 32 := Scalar.muli v14 c1_i32_177
  let v220 : BitVec 32 := Scalar.addi c0_i32_178 v219
  v220.toNat
def k0_dev11 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_212 : BitVec 32 := 1#32
  let v260 : BitVec 32 := Scalar.muli v25 c1_i32_212
  let v261 : BitVec 32 := Scalar.addi c0_i32_213 v260
  v261.toNat
def k0_dev12 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_247 : BitVec 32 := 1#32
  let v300 : BitVec 32 := Scalar.muli v14 c1_i32_247
  let v301 : BitVec 32 := Scalar.addi c0_i32_248 v300
  v301.toNat
def k0_dev13 (d0 : Dev nD) : Nat :=
  let c0_i32_284 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_283 : BitVec 32 := 1#32
  let v341 : BitVec 32 := Scalar.muli v25 c1_i32_283
  let v342 : BitVec 32 := Scalar.addi c0_i32_284 v341
  v342.toNat
def k0_dev14 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_318 : BitVec 32 := 1#32
  let v381 : BitVec 32 := Scalar.muli v14 c1_i32_318
  let v382 : BitVec 32 := Scalar.addi c0_i32_319 v381
  v382.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_334 : BitVec 32 := 1#32
  let v399 : BitVec 32 := Scalar.addi v2 c1_i32_334
  let c4_i32_335 : BitVec 32 := 4#32
  let c0_i32_336 : BitVec 32 := 0#32
  let v400 : BitVec 1 := Scalar.cmpi .eq c4_i32_335 c0_i32_336
  let c1_i32_337 : BitVec 32 := 1#32
  let v401 : BitVec 32 := Scalar.select v400 c1_i32_337 c4_i32_335
  let v402 : BitVec 32 := Scalar.remsi v399 v401
  let c0_i32_339 : BitVec 32 := 0#32
  let v404 : BitVec 1 := Scalar.cmpi .slt v402 c0_i32_339
  let c0_i32_340 : BitVec 32 := 0#32
  let v405 : BitVec 1 := Scalar.cmpi .slt v401 c0_i32_340
  let v406 : BitVec 1 := Scalar.xori v404 v405
  let c0_i32_338 : BitVec 32 := 0#32
  let v403 : BitVec 1 := Scalar.cmpi .ne v402 c0_i32_338
  let v407 : BitVec 1 := Scalar.andi v406 v403
  let v408 : BitVec 32 := Scalar.addi v402 v401
  let v409 : BitVec 32 := Scalar.select v407 v408 v402
  let c512_i32_343 : BitVec 32 := 512#32
  let v412 : BitVec 32 := Scalar.muli v409 c512_i32_343
  let v413 : Index := Scalar.indexCast v412
  let c0_344 : Index := 0#32
  ![v413.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_334 : BitVec 32 := 1#32
  let v399 : BitVec 32 := Scalar.addi v2 c1_i32_334
  let c4_i32_335 : BitVec 32 := 4#32
  let c0_i32_336 : BitVec 32 := 0#32
  let v400 : BitVec 1 := Scalar.cmpi .eq c4_i32_335 c0_i32_336
  let c1_i32_337 : BitVec 32 := 1#32
  let v401 : BitVec 32 := Scalar.select v400 c1_i32_337 c4_i32_335
  let v402 : BitVec 32 := Scalar.remsi v399 v401
  let c0_i32_339 : BitVec 32 := 0#32
  let v404 : BitVec 1 := Scalar.cmpi .slt v402 c0_i32_339
  let c0_i32_340 : BitVec 32 := 0#32
  let v405 : BitVec 1 := Scalar.cmpi .slt v401 c0_i32_340
  let v406 : BitVec 1 := Scalar.xori v404 v405
  let c0_i32_338 : BitVec 32 := 0#32
  let v403 : BitVec 1 := Scalar.cmpi .ne v402 c0_i32_338
  let v407 : BitVec 1 := Scalar.andi v406 v403
  let v408 : BitVec 32 := Scalar.addi v402 v401
  let v409 : BitVec 32 := Scalar.select v407 v408 v402
  let c512_i32_348 : BitVec 32 := 512#32
  let v421 : BitVec 32 := Scalar.muli v409 c512_i32_348
  let c0_i32_352 : BitVec 32 := 0#32
  ![v421.toNat, 0]
def k0_dev15 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_350 : BitVec 32 := 1#32
  let v422 : BitVec 32 := Scalar.muli v25 c1_i32_350
  let v423 : BitVec 32 := Scalar.addi c0_i32_351 v422
  v423.toNat
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_364 : BitVec 32 := 4#32
  let v438 : BitVec 32 := Scalar.addi v2 c4_i32_364
  let c1_i32_365 : BitVec 32 := 1#32
  let v439 : BitVec 32 := Scalar.subi v438 c1_i32_365
  let c4_i32_366 : BitVec 32 := 4#32
  let c0_i32_367 : BitVec 32 := 0#32
  let v440 : BitVec 1 := Scalar.cmpi .eq c4_i32_366 c0_i32_367
  let c1_i32_368 : BitVec 32 := 1#32
  let v441 : BitVec 32 := Scalar.select v440 c1_i32_368 c4_i32_366
  let v442 : BitVec 32 := Scalar.remsi v439 v441
  let c0_i32_370 : BitVec 32 := 0#32
  let v444 : BitVec 1 := Scalar.cmpi .slt v442 c0_i32_370
  let c0_i32_371 : BitVec 32 := 0#32
  let v445 : BitVec 1 := Scalar.cmpi .slt v441 c0_i32_371
  let v446 : BitVec 1 := Scalar.xori v444 v445
  let c0_i32_369 : BitVec 32 := 0#32
  let v443 : BitVec 1 := Scalar.cmpi .ne v442 c0_i32_369
  let v447 : BitVec 1 := Scalar.andi v446 v443
  let v448 : BitVec 32 := Scalar.addi v442 v441
  let v449 : BitVec 32 := Scalar.select v447 v448 v442
  let c512_i32_375 : BitVec 32 := 512#32
  let v452 : BitVec 32 := Scalar.muli v449 c512_i32_375
  let v453 : Index := Scalar.indexCast v452
  let c512_376 : Index := 512#32
  ![v453.toNat, 512]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_364 : BitVec 32 := 4#32
  let v438 : BitVec 32 := Scalar.addi v2 c4_i32_364
  let c1_i32_365 : BitVec 32 := 1#32
  let v439 : BitVec 32 := Scalar.subi v438 c1_i32_365
  let c4_i32_366 : BitVec 32 := 4#32
  let c0_i32_367 : BitVec 32 := 0#32
  let v440 : BitVec 1 := Scalar.cmpi .eq c4_i32_366 c0_i32_367
  let c1_i32_368 : BitVec 32 := 1#32
  let v441 : BitVec 32 := Scalar.select v440 c1_i32_368 c4_i32_366
  let v442 : BitVec 32 := Scalar.remsi v439 v441
  let c0_i32_370 : BitVec 32 := 0#32
  let v444 : BitVec 1 := Scalar.cmpi .slt v442 c0_i32_370
  let c0_i32_371 : BitVec 32 := 0#32
  let v445 : BitVec 1 := Scalar.cmpi .slt v441 c0_i32_371
  let v446 : BitVec 1 := Scalar.xori v444 v445
  let c0_i32_369 : BitVec 32 := 0#32
  let v443 : BitVec 1 := Scalar.cmpi .ne v442 c0_i32_369
  let v447 : BitVec 1 := Scalar.andi v446 v443
  let v448 : BitVec 32 := Scalar.addi v442 v441
  let v449 : BitVec 32 := Scalar.select v447 v448 v442
  let c512_i32_380 : BitVec 32 := 512#32
  let v461 : BitVec 32 := Scalar.muli v449 c512_i32_380
  let c512_i32_384 : BitVec 32 := 512#32
  ![v461.toNat, 512]
def k0_dev16 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_382 : BitVec 32 := 1#32
  let v462 : BitVec 32 := Scalar.muli v14 c1_i32_382
  let v463 : BitVec 32 := Scalar.addi c0_i32_383 v462
  v463.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_396 : BitVec 32 := 1#32
  let v478 : BitVec 32 := Scalar.addi v2 c1_i32_396
  let c4_i32_397 : BitVec 32 := 4#32
  let c0_i32_398 : BitVec 32 := 0#32
  let v479 : BitVec 1 := Scalar.cmpi .eq c4_i32_397 c0_i32_398
  let c1_i32_399 : BitVec 32 := 1#32
  let v480 : BitVec 32 := Scalar.select v479 c1_i32_399 c4_i32_397
  let v481 : BitVec 32 := Scalar.remsi v478 v480
  let c0_i32_401 : BitVec 32 := 0#32
  let v483 : BitVec 1 := Scalar.cmpi .slt v481 c0_i32_401
  let c0_i32_402 : BitVec 32 := 0#32
  let v484 : BitVec 1 := Scalar.cmpi .slt v480 c0_i32_402
  let v485 : BitVec 1 := Scalar.xori v483 v484
  let c0_i32_400 : BitVec 32 := 0#32
  let v482 : BitVec 1 := Scalar.cmpi .ne v481 c0_i32_400
  let v486 : BitVec 1 := Scalar.andi v485 v482
  let v487 : BitVec 32 := Scalar.addi v481 v480
  let v488 : BitVec 32 := Scalar.select v486 v487 v481
  let c512_i32_406 : BitVec 32 := 512#32
  let v491 : BitVec 32 := Scalar.muli v488 c512_i32_406
  let v492 : Index := Scalar.indexCast v491
  let c256_407 : Index := 256#32
  ![v492.toNat, 256]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_396 : BitVec 32 := 1#32
  let v478 : BitVec 32 := Scalar.addi v2 c1_i32_396
  let c4_i32_397 : BitVec 32 := 4#32
  let c0_i32_398 : BitVec 32 := 0#32
  let v479 : BitVec 1 := Scalar.cmpi .eq c4_i32_397 c0_i32_398
  let c1_i32_399 : BitVec 32 := 1#32
  let v480 : BitVec 32 := Scalar.select v479 c1_i32_399 c4_i32_397
  let v481 : BitVec 32 := Scalar.remsi v478 v480
  let c0_i32_401 : BitVec 32 := 0#32
  let v483 : BitVec 1 := Scalar.cmpi .slt v481 c0_i32_401
  let c0_i32_402 : BitVec 32 := 0#32
  let v484 : BitVec 1 := Scalar.cmpi .slt v480 c0_i32_402
  let v485 : BitVec 1 := Scalar.xori v483 v484
  let c0_i32_400 : BitVec 32 := 0#32
  let v482 : BitVec 1 := Scalar.cmpi .ne v481 c0_i32_400
  let v486 : BitVec 1 := Scalar.andi v485 v482
  let v487 : BitVec 32 := Scalar.addi v481 v480
  let v488 : BitVec 32 := Scalar.select v486 v487 v481
  let c512_i32_411 : BitVec 32 := 512#32
  let v500 : BitVec 32 := Scalar.muli v488 c512_i32_411
  let c256_i32_415 : BitVec 32 := 256#32
  ![v500.toNat, 256]
def k0_dev17 (d0 : Dev nD) : Nat :=
  let c0_i32_414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_413 : BitVec 32 := 1#32
  let v501 : BitVec 32 := Scalar.muli v25 c1_i32_413
  let v502 : BitVec 32 := Scalar.addi c0_i32_414 v501
  v502.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_427 : BitVec 32 := 4#32
  let v517 : BitVec 32 := Scalar.addi v2 c4_i32_427
  let c1_i32_428 : BitVec 32 := 1#32
  let v518 : BitVec 32 := Scalar.subi v517 c1_i32_428
  let c4_i32_429 : BitVec 32 := 4#32
  let c0_i32_430 : BitVec 32 := 0#32
  let v519 : BitVec 1 := Scalar.cmpi .eq c4_i32_429 c0_i32_430
  let c1_i32_431 : BitVec 32 := 1#32
  let v520 : BitVec 32 := Scalar.select v519 c1_i32_431 c4_i32_429
  let v521 : BitVec 32 := Scalar.remsi v518 v520
  let c0_i32_433 : BitVec 32 := 0#32
  let v523 : BitVec 1 := Scalar.cmpi .slt v521 c0_i32_433
  let c0_i32_434 : BitVec 32 := 0#32
  let v524 : BitVec 1 := Scalar.cmpi .slt v520 c0_i32_434
  let v525 : BitVec 1 := Scalar.xori v523 v524
  let c0_i32_432 : BitVec 32 := 0#32
  let v522 : BitVec 1 := Scalar.cmpi .ne v521 c0_i32_432
  let v526 : BitVec 1 := Scalar.andi v525 v522
  let v527 : BitVec 32 := Scalar.addi v521 v520
  let v528 : BitVec 32 := Scalar.select v526 v527 v521
  let c512_i32_438 : BitVec 32 := 512#32
  let v531 : BitVec 32 := Scalar.muli v528 c512_i32_438
  let v532 : Index := Scalar.indexCast v531
  let c768_439 : Index := 768#32
  ![v532.toNat, 768]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_427 : BitVec 32 := 4#32
  let v517 : BitVec 32 := Scalar.addi v2 c4_i32_427
  let c1_i32_428 : BitVec 32 := 1#32
  let v518 : BitVec 32 := Scalar.subi v517 c1_i32_428
  let c4_i32_429 : BitVec 32 := 4#32
  let c0_i32_430 : BitVec 32 := 0#32
  let v519 : BitVec 1 := Scalar.cmpi .eq c4_i32_429 c0_i32_430
  let c1_i32_431 : BitVec 32 := 1#32
  let v520 : BitVec 32 := Scalar.select v519 c1_i32_431 c4_i32_429
  let v521 : BitVec 32 := Scalar.remsi v518 v520
  let c0_i32_433 : BitVec 32 := 0#32
  let v523 : BitVec 1 := Scalar.cmpi .slt v521 c0_i32_433
  let c0_i32_434 : BitVec 32 := 0#32
  let v524 : BitVec 1 := Scalar.cmpi .slt v520 c0_i32_434
  let v525 : BitVec 1 := Scalar.xori v523 v524
  let c0_i32_432 : BitVec 32 := 0#32
  let v522 : BitVec 1 := Scalar.cmpi .ne v521 c0_i32_432
  let v526 : BitVec 1 := Scalar.andi v525 v522
  let v527 : BitVec 32 := Scalar.addi v521 v520
  let v528 : BitVec 32 := Scalar.select v526 v527 v521
  let c512_i32_443 : BitVec 32 := 512#32
  let v540 : BitVec 32 := Scalar.muli v528 c512_i32_443
  let c768_i32_447 : BitVec 32 := 768#32
  ![v540.toNat, 768]
def k0_dev18 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_445 : BitVec 32 := 1#32
  let v541 : BitVec 32 := Scalar.muli v14 c1_i32_445
  let v542 : BitVec 32 := Scalar.addi c0_i32_446 v541
  v542.toNat
def k0_off17 (d0 : Dev nD) (c1_i32_457 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_455 : BitVec 32 := 1#32
  let v555 : BitVec 32 := Scalar.addi v2 c1_i32_455
  let c4_i32_456 : BitVec 32 := 4#32
  let v556 : BitVec 32 := Scalar.addi v555 c4_i32_456
  let v557 : BitVec 32 := Scalar.subi v556 c1_i32_457
  let c4_i32_458 : BitVec 32 := 4#32
  let c0_i32_459 : BitVec 32 := 0#32
  let v558 : BitVec 1 := Scalar.cmpi .eq c4_i32_458 c0_i32_459
  let c1_i32_460 : BitVec 32 := 1#32
  let v559 : BitVec 32 := Scalar.select v558 c1_i32_460 c4_i32_458
  let v560 : BitVec 32 := Scalar.remsi v557 v559
  let c0_i32_462 : BitVec 32 := 0#32
  let v562 : BitVec 1 := Scalar.cmpi .slt v560 c0_i32_462
  let c0_i32_463 : BitVec 32 := 0#32
  let v563 : BitVec 1 := Scalar.cmpi .slt v559 c0_i32_463
  let v564 : BitVec 1 := Scalar.xori v562 v563
  let c0_i32_461 : BitVec 32 := 0#32
  let v561 : BitVec 1 := Scalar.cmpi .ne v560 c0_i32_461
  let v565 : BitVec 1 := Scalar.andi v564 v561
  let v566 : BitVec 32 := Scalar.addi v560 v559
  let v567 : BitVec 32 := Scalar.select v565 v566 v560
  let c512_i32_465 : BitVec 32 := 512#32
  let v569 : BitVec 32 := Scalar.muli v567 c512_i32_465
  let c0_i32_469 : BitVec 32 := 0#32
  ![v569.toNat, 0]
def k0_dev19 (d0 : Dev nD) : Nat :=
  let c0_i32_468 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_467 : BitVec 32 := 1#32
  let v570 : BitVec 32 := Scalar.muli v25 c1_i32_467
  let v571 : BitVec 32 := Scalar.addi c0_i32_468 v570
  v571.toNat
def k0_off18 (d0 : Dev nD) (c1_i32_479 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_477 : BitVec 32 := 4#32
  let v584 : BitVec 32 := Scalar.addi v2 c4_i32_477
  let c1_i32_478 : BitVec 32 := 1#32
  let v585 : BitVec 32 := Scalar.subi v584 c1_i32_478
  let v586 : BitVec 32 := Scalar.addi v585 c1_i32_479
  let c4_i32_480 : BitVec 32 := 4#32
  let c0_i32_481 : BitVec 32 := 0#32
  let v587 : BitVec 1 := Scalar.cmpi .eq c4_i32_480 c0_i32_481
  let c1_i32_482 : BitVec 32 := 1#32
  let v588 : BitVec 32 := Scalar.select v587 c1_i32_482 c4_i32_480
  let v589 : BitVec 32 := Scalar.remsi v586 v588
  let c0_i32_484 : BitVec 32 := 0#32
  let v591 : BitVec 1 := Scalar.cmpi .slt v589 c0_i32_484
  let c0_i32_485 : BitVec 32 := 0#32
  let v592 : BitVec 1 := Scalar.cmpi .slt v588 c0_i32_485
  let v593 : BitVec 1 := Scalar.xori v591 v592
  let c0_i32_483 : BitVec 32 := 0#32
  let v590 : BitVec 1 := Scalar.cmpi .ne v589 c0_i32_483
  let v594 : BitVec 1 := Scalar.andi v593 v590
  let v595 : BitVec 32 := Scalar.addi v589 v588
  let v596 : BitVec 32 := Scalar.select v594 v595 v589
  let c512_i32_487 : BitVec 32 := 512#32
  let v598 : BitVec 32 := Scalar.muli v596 c512_i32_487
  let c512_i32_491 : BitVec 32 := 512#32
  ![v598.toNat, 512]
def k0_dev20 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_489 : BitVec 32 := 1#32
  let v599 : BitVec 32 := Scalar.muli v14 c1_i32_489
  let v600 : BitVec 32 := Scalar.addi c0_i32_490 v599
  v600.toNat
def k0_off19 (d0 : Dev nD) (c1_i32_501 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_499 : BitVec 32 := 1#32
  let v613 : BitVec 32 := Scalar.addi v2 c1_i32_499
  let c4_i32_500 : BitVec 32 := 4#32
  let v614 : BitVec 32 := Scalar.addi v613 c4_i32_500
  let v615 : BitVec 32 := Scalar.subi v614 c1_i32_501
  let c4_i32_502 : BitVec 32 := 4#32
  let c0_i32_503 : BitVec 32 := 0#32
  let v616 : BitVec 1 := Scalar.cmpi .eq c4_i32_502 c0_i32_503
  let c1_i32_504 : BitVec 32 := 1#32
  let v617 : BitVec 32 := Scalar.select v616 c1_i32_504 c4_i32_502
  let v618 : BitVec 32 := Scalar.remsi v615 v617
  let c0_i32_506 : BitVec 32 := 0#32
  let v620 : BitVec 1 := Scalar.cmpi .slt v618 c0_i32_506
  let c0_i32_507 : BitVec 32 := 0#32
  let v621 : BitVec 1 := Scalar.cmpi .slt v617 c0_i32_507
  let v622 : BitVec 1 := Scalar.xori v620 v621
  let c0_i32_505 : BitVec 32 := 0#32
  let v619 : BitVec 1 := Scalar.cmpi .ne v618 c0_i32_505
  let v623 : BitVec 1 := Scalar.andi v622 v619
  let v624 : BitVec 32 := Scalar.addi v618 v617
  let v625 : BitVec 32 := Scalar.select v623 v624 v618
  let c512_i32_509 : BitVec 32 := 512#32
  let v627 : BitVec 32 := Scalar.muli v625 c512_i32_509
  let c256_i32_513 : BitVec 32 := 256#32
  ![v627.toNat, 256]
def k0_dev21 (d0 : Dev nD) : Nat :=
  let c0_i32_512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_511 : BitVec 32 := 1#32
  let v628 : BitVec 32 := Scalar.muli v25 c1_i32_511
  let v629 : BitVec 32 := Scalar.addi c0_i32_512 v628
  v629.toNat
def k0_off20 (d0 : Dev nD) (c1_i32_523 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_521 : BitVec 32 := 4#32
  let v642 : BitVec 32 := Scalar.addi v2 c4_i32_521
  let c1_i32_522 : BitVec 32 := 1#32
  let v643 : BitVec 32 := Scalar.subi v642 c1_i32_522
  let v644 : BitVec 32 := Scalar.addi v643 c1_i32_523
  let c4_i32_524 : BitVec 32 := 4#32
  let c0_i32_525 : BitVec 32 := 0#32
  let v645 : BitVec 1 := Scalar.cmpi .eq c4_i32_524 c0_i32_525
  let c1_i32_526 : BitVec 32 := 1#32
  let v646 : BitVec 32 := Scalar.select v645 c1_i32_526 c4_i32_524
  let v647 : BitVec 32 := Scalar.remsi v644 v646
  let c0_i32_528 : BitVec 32 := 0#32
  let v649 : BitVec 1 := Scalar.cmpi .slt v647 c0_i32_528
  let c0_i32_529 : BitVec 32 := 0#32
  let v650 : BitVec 1 := Scalar.cmpi .slt v646 c0_i32_529
  let v651 : BitVec 1 := Scalar.xori v649 v650
  let c0_i32_527 : BitVec 32 := 0#32
  let v648 : BitVec 1 := Scalar.cmpi .ne v647 c0_i32_527
  let v652 : BitVec 1 := Scalar.andi v651 v648
  let v653 : BitVec 32 := Scalar.addi v647 v646
  let v654 : BitVec 32 := Scalar.select v652 v653 v647
  let c512_i32_531 : BitVec 32 := 512#32
  let v656 : BitVec 32 := Scalar.muli v654 c512_i32_531
  let c768_i32_535 : BitVec 32 := 768#32
  ![v656.toNat, 768]
def k0_dev22 (d0 : Dev nD) : Nat :=
  let c0_i32_534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_533 : BitVec 32 := 1#32
  let v657 : BitVec 32 := Scalar.muli v14 c1_i32_533
  let v658 : BitVec 32 := Scalar.addi c0_i32_534 v657
  v658.toNat
def k0_dev23 (d0 : Dev nD) : Nat :=
  let c0_i32_556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_555 : BitVec 32 := 1#32
  let v686 : BitVec 32 := Scalar.muli v25 c1_i32_555
  let v687 : BitVec 32 := Scalar.addi c0_i32_556 v686
  v687.toNat
def k0_dev24 (d0 : Dev nD) : Nat :=
  let c0_i32_578 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_577 : BitVec 32 := 1#32
  let v715 : BitVec 32 := Scalar.muli v14 c1_i32_577
  let v716 : BitVec 32 := Scalar.addi c0_i32_578 v715
  v716.toNat
def k0_dev25 (d0 : Dev nD) : Nat :=
  let c0_i32_600 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_599 : BitVec 32 := 1#32
  let v744 : BitVec 32 := Scalar.muli v25 c1_i32_599
  let v745 : BitVec 32 := Scalar.addi c0_i32_600 v744
  v745.toNat
def k0_dev26 (d0 : Dev nD) : Nat :=
  let c0_i32_622 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_621 : BitVec 32 := 1#32
  let v773 : BitVec 32 := Scalar.muli v14 c1_i32_621
  let v774 : BitVec 32 := Scalar.addi c0_i32_622 v773
  v774.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S4x2048x1024 : Shape := ⟨3, ![4, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2048x1024, .f32⟩
  | .hbm, ⟨2, _⟩ => ⟨S_, .f32⟩
  | .hbm, ⟨3, _⟩ => ⟨S2048x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Proto.lean ====
/-
# The protocol of the ring all-reduce

Four devices, eight chunks of traffic: the rows are cut into four chunks of 512 (one per device) and the columns into four
LANES of 256. Lanes 0 and 1 travel to the next device, lanes 2 and 3 to the previous one. In each lane a chunk is handed
round the ring six times: hops 0, 1, 2 carry a partial sum, to which the receiver adds its own block; after hop 2 the
receiver holds the sum over all devices, writes it to the result, and hops 3, 4, 5 carry the finished chunk round.

Every transfer has its own pair of semaphores: hop `h` of lane `l` raises entry `4h+l` of the sender's send array and
entry `4h+l` of the receiver's receive array. Each is raised once, by one transfer, and waited for once. On the runtime's
barrier semaphore each device waits for two units, one from either neighbour; the neighbour's unit hands over the
buffers that the device's transfers to that neighbour will land in.

This module: lanes and chunks, the memory each hop reads and writes, the contents that travel, and the schedule.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Ring
public import Idealize.ShloMosaic.Lib.Tactic

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: one copy for the pipeline's cells, one for the ring's, whose duties are named by `Bool` -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Lanes, neighbours and chunks -/

/-- The device a lane sends to: the next one for lanes 0 and 1, the previous one for lanes 2 and 3. -/
def fwd (l : Fin 4) (c : Dev nD) : Dev nD := ⟨(c.val + if l.val < 2 then 1 else 3) % 4, Nat.mod_lt _ (by decide)⟩
/-- The device a lane receives from. -/
def bwd (l : Fin 4) (c : Dev nD) : Dev nD := ⟨(c.val + if l.val < 2 then 3 else 1) % 4, Nat.mod_lt _ (by decide)⟩
/-- The chunk of rows that device `c` sends in lane `l` at hop `h`. -/
def chk (l : Fin 4) (h : ℕ) (c : Dev nD) : Fin 4 := ⟨(c.val + (if l.val < 2 then 3 else 1) * h) % 4, Nat.mod_lt _ (by decide)⟩

theorem fwd_bwd (l : Fin 4) (c : Dev nD) : fwd l (bwd l c) = c := by revert l c; decide
theorem bwd_fwd (l : Fin 4) (c : Dev nD) : bwd l (fwd l c) = c := by revert l c; decide
/-- What a device sends at the next hop is the chunk it received at this one. -/
theorem chk_succ (l : Fin 4) (h : ℕ) (c : Dev nD) : chk l h (bwd l c) = chk l (h + 1) c := by
  obtain ⟨c, hc⟩ := c
  refine Fin.ext ?_
  simp only [chk, bwd]
  split <;> omega

/-! ## The memory of a hop -/

theorem inb_blk (q l : Fin 4) : ∀ a, (![512 * q.val, 256 * l.val] : Fin 2 → Nat) a + S512x256.size a ≤ S2048x1024.size a := by
  revert q l; decide
theorem inb_slot (h : Fin 3) (l : Fin 4) : ∀ a, (![h.val, 0, 256 * (l.val % 2)] : Fin 3 → Nat) a + S1x512x256.size a ≤ S3x512x512.size a := by
  revert h l; decide

abbrev xM : Memref sig .tc .vmem S2048x1024 .f32 := Memref.whole cc0_stg0_0
abbrev oM : Memref sig .tc .vmem S2048x1024 .f32 := Memref.whole cc0_stg1_0
/-- The landing buffer of a lane: one for each direction. -/
def rsW (l : Fin 4) : Memref sig .tc .vmem S3x512x512 .f32 :=
  match l with | 0 => Memref.whole cc0_scratch0 | 1 => Memref.whole cc0_scratch0 | 2 => Memref.whole cc0_scratch1 | 3 => Memref.whole cc0_scratch1

/-- Rows of chunk `q`, columns of lane `l`. -/
abbrev blkR (q l : Fin 4) : Rect S2048x1024 := Rect.unit (s := S2048x1024) ![512 * q.val, 256 * l.val] S512x256.size (inb_blk q l)
/-- The landing slot of hop `h`, the half of lane `l`. -/
abbrev slotR (h : Fin 3) (l : Fin 4) : Rect S3x512x512 := Rect.unit (s := S3x512x512) ![h.val, 0, 256 * (l.val % 2)] S1x512x256.size (inb_slot h l)

abbrev xP (q l : Fin 4) : Memref sig .tc .vmem S512x256 .f32 := xM.slice (blkR q l) (fun _ => rfl)
abbrev oP (q l : Fin 4) : Memref sig .tc .vmem S512x256 .f32 := oM.slice (blkR q l) (fun _ => rfl)
def rsP (h : Fin 3) (l : Fin 4) : Memref sig .tc .vmem S512x256 .f32 :=
  ((rsW l).slice (slotR h l) (fun _ => rfl)).squeeze S512x256 Facts₀.squeezes_S1x512x256_S512x256

/-- What device `c` sends at hop `h`: its block of `x`, then the landing slot it has just added to, then finished chunks of the result. -/
def srcM (h : ℕ) (l : Fin 4) (c : Dev nD) : Memref sig .tc .vmem S512x256 .f32 :=
  match h with | 0 => xP (chk l 0 c) l | 1 => rsP 0 l | 2 => rsP 1 l | h + 3 => oP (chk l (h + 3) c) l
/-- Where it lands on the receiver: a landing slot at hops 0 to 2, the result at hops 3 to 5. -/
def dstM (h : ℕ) (l : Fin 4) (c : Dev nD) : Memref sig .tc .vmem S512x256 .f32 :=
  match h with | 0 => rsP 0 l | 1 => rsP 1 l | 2 => rsP 2 l | h + 3 => oP (chk l (h + 3) c) l

/-- The credit of one transfer. -/
abbrev N : ℕ := (xP 0 0).view.dmaCredit
theorem N_pos : 0 < N := View.dmaCredit_pos _ (by decide)
theorem credit_x (q l : Fin 4) : (xP q l).view.dmaCredit = N := rfl
theorem credit_o (q l : Fin 4) : (oP q l).view.dmaCredit = N := rfl
theorem credit_rs (h : Fin 3) (l : Fin 4) : (rsP h l).view.dmaCredit = N := by fin_cases l <;> rfl
theorem credit_dst (h : ℕ) (l : Fin 4) (c : Dev nD) : (dstM h l c).view.dmaCredit = N := by
  match h with
  | 0 => exact credit_rs 0 l
  | 1 => exact credit_rs 1 l
  | 2 => exact credit_rs 2 l
  | h + 3 => exact credit_o _ l

/-! ## The contents that travel -/

/-- A block of a chunk's rows and a lane's columns. -/
abbrev Blk (F : FTy → Type) : Type := S512x256.Idx → Elt F .f32

variable (X : Dev nD → (cc0_stg0_0 : Ref sig .tc).ty.Contents (Elt F))

/-- Device `c`'s block of `x` at chunk `q` and lane `l`. -/
def xblk (c : Dev nD) (q l : Fin 4) : Blk F := (xP q l).view.read (Elt F) (X c)

/-- What device `c` sends in lane `l` at hop `h`: first its own block; at hops 1 to 3 what came in with its own block of that
    chunk added; after that what came in. -/
def VS : ℕ → Fin 4 → Dev nD → Blk F
  | 0, l, c => xblk X c (chk l 0 c) l
  | h + 1, l, c => if h < 3 then addf (VS h l (bwd l c) : FVec F S512x256 .f32) (xblk X c (chk l (h + 1) c) l) else VS h l (bwd l c)

/-! ## The cells -/

/-- The kernel's own semaphores: which array (`false` the send one, `true` the receive one), hop, lane. -/
abbrev Slot : Type := Bool × Fin 6 × Fin 4
def slotNo (j : Slot) : ℕ := 2 + (bif j.1 then 24 else 0) + 4 * j.2.1.val + j.2.2.val
theorem slotNo_lt (j : Slot) : slotNo j < 50 := by revert j; decide
abbrev osem (j : Slot) : SemLoc sig := .dma (⟨slotNo j, slotNo_lt j⟩ : Fin 50)
theorem osem_injective : Function.Injective osem := by decide +kernel

abbrev barS : Sem sig := (SemArray.scalar (sig.barrier 0 rfl) : Sems sig S_).sem
abbrev barCell (c : Dev nD) : GSem nD τ sig := ((c : Thread nD τ), .reg barS)
abbrev sendCell (h : Fin 6) (l : Fin 4) (c : Dev nD) : GSem nD τ sig := ((c : Thread nD τ), osem (false, h, l))
abbrev recvCell (h : Fin 6) (l : Fin 4) (c : Dev nD) : GSem nD τ sig := ((c : Thread nD τ), osem (true, h, l))

abbrev csem : Unit ⊕ Slot → SemLoc sig := fun | .inl _ => .reg barS | .inr j => osem j
abbrev kcell (ck : Dev nD × (Unit ⊕ Slot)) : GSem nD τ sig := ((ck.1 : Thread nD τ), csem ck.2)

theorem csem_injective : Function.Injective csem := by
  rintro (_ | j) (_ | j') h
  · rfl
  · cases h
  · cases h
  · rw [osem_injective h]
theorem kcell_injective : Function.Injective kcell := by
  rintro ⟨c, k⟩ ⟨c', k'⟩ h
  have h1 : c = c' := congrArg (fun g : GSem nD τ sig => g.1.1) h
  subst h1
  exact congrArg (Prod.mk c) (csem_injective (congrArg Prod.snd h))

/-! ## The schedule -/

/-- Ownership of a block of device `c`'s memory with contents `V`. -/
abbrev blk (c : Dev nD) (m : Memref sig .tc .vmem S512x256 .f32) (V : Blk F) : sProp 𝕄 := owns (c : Thread nD τ) m fullShare V
/-- Ownership of a block of device `c`'s memory with some contents. -/
def blkAny (c : Dev nD) (m : Memref sig .tc .vmem S512x256 .f32) : sProp 𝕄 := iprop(∃ V : Blk F, blk c m V)

/-- The six places on the neighbour `fwd l c` that device `c`'s transfers of lane `l` land in. -/
def landings (c : Dev nD) (l : Fin 4) : sProp 𝕄 := bigSep Finset.univ fun h : Fin 6 => blkAny (F := F) (fwd l c) (dstM h.val l c)

/-- What a unit on device `c`'s barrier hands over: from the next device the landings of lanes 0 and 1, from the previous
    device those of lanes 2 and 3. -/
def barPay (c : Dev nD) (d : Bool) : sProp 𝕄 :=
  bif d then iprop(landings (F := F) c 2 ∗ landings (F := F) c 3) else iprop(landings (F := F) c 0 ∗ landings (F := F) c 1)
/-- What a transfer's end hands back to its sender: the block it sent. -/
def sendPay (h : ℕ) (l : Fin 4) (c : Dev nD) : sProp 𝕄 := blk c (srcM h l c) (VS X h l c)
/-- What it hands the receiver: the landing place, with the block that was sent. -/
def recvPay (h : ℕ) (l : Fin 4) (c : Dev nD) : sProp 𝕄 := blk c (dstM h l (bwd l c)) (VS X h l (bwd l c))

/-- The lane a semaphore's number stands for. -/
def laneOf (n : ℕ) : Fin 4 := ⟨n % 4, Nat.mod_lt _ (by decide)⟩
def dmaPay (c : Dev nD) (n : ℕ) : sProp 𝕄 :=
  if n < 26 then sendPay X ((n - 2) / 4) (laneOf (n - 2)) c else recvPay X ((n - 26) / 4) (laneOf (n - 26)) c

def semPay (c : Dev nD) (s : SemLoc sig) (d : Bool) : sProp 𝕄 :=
  match s with
  | .reg _ => barPay c d
  | .dma n => dmaPay X c n.val

/-- One round. A barrier cell has two duties of one unit each, a send or receive cell one duty of a transfer's credit. -/
def ringRd : Rounds.Schedule (GSem nD τ sig) Bool 𝕄 where
  duties g r := if r = 0 ∧ g.1.2 = .tc then (match g.2 with | .reg _ => Finset.univ | .dma n => if 2 ≤ n.val then {false} else ∅) else ∅
  unitless _ := False
  amount g _ _ := match g.2 with | .reg _ => 1 | .dma _ => N
  payload g _ d := semPay X g.1.1 g.2 d
  amount_pos g _ _ _ := by
    rcases g with ⟨_, _ | _⟩
    · exact Nat.one_pos
    · exact N_pos

instance blkAny_storable (c : Dev nD) (m : Memref sig .tc .vmem S512x256 .f32) : BI.Storable (upEmb : UEmb _ 𝕄) (blkAny (F := F) c m) := by
  unfold blkAny; infer_instance
instance landings_storable (c : Dev nD) (l : Fin 4) : BI.Storable (upEmb : UEmb _ 𝕄) (landings (F := F) c l) := by
  unfold landings; infer_instance
instance barPay_storable (c : Dev nD) (d : Bool) : BI.Storable (upEmb : UEmb _ 𝕄) (barPay (F := F) c d) := by
  cases d
  · show BI.Storable upEmb iprop(landings (F := F) c 0 ∗ landings (F := F) c 1); infer_instance
  · show BI.Storable upEmb iprop(landings (F := F) c 2 ∗ landings (F := F) c 3); infer_instance
instance ringRd_payload_storable (g : GSem nD τ sig) (r : ℕ) (d : Bool) :
    BI.Storable (upEmb : UEmb _ 𝕄) ((ringRd X).payload g r d) := by
  rcases g with ⟨⟨c, p⟩, _ | n⟩
  · show BI.Storable upEmb (barPay (F := F) c d); infer_instance
  · show BI.Storable upEmb (dmaPay X c n.val)
    unfold dmaPay sendPay recvPay
    split <;> infer_instance

section Sched
variable (c : Dev nD)

theorem duties_bar : (ringRd X).duties (barCell c) 0 = Finset.univ := rfl
theorem duties_own (j : Slot) : (ringRd X).duties ((c : Thread nD τ), osem j) 0 = {false} := by
  have h2 : 2 ≤ slotNo j := by unfold slotNo; omega
  dsimp only [ringRd]
  rw [if_pos ⟨rfl, rfl⟩, if_pos h2]
theorem duties_later (g : GSem nD τ sig) : ∀ r, 1 ≤ r → (ringRd X).duties g r = ∅ :=
  fun r hr => if_neg fun h => by omega

theorem amount_bar (d : Bool) : (ringRd X).amount (barCell c) 0 d = 1 := rfl
theorem amount_own (j : Slot) (d : Bool) : (ringRd X).amount ((c : Thread nD τ), osem j) 0 d = N := rfl

theorem expect_bar : (ringRd X).expect (barCell c) 0 = 2 := by
  unfold Schedule.expect Schedule.amountOf
  rw [duties_bar, Finset.sum_congr rfl fun d _ => amount_bar X c d, Finset.sum_const, Finset.card_univ, Fintype.card_bool, smul_eq_mul]
theorem expect_own (j : Slot) : (ringRd X).expect ((c : Thread nD τ), osem j) 0 = N := by
  unfold Schedule.expect Schedule.amountOf; rw [duties_own, Finset.sum_singleton, amount_own]

theorem payload_bar (d : Bool) : (ringRd X).payload (barCell c) 0 d = barPay c d := rfl
theorem payload_send (h : Fin 6) (l : Fin 4) (d : Bool) : (ringRd X).payload (sendCell h l c) 0 d = sendPay X h.val l c := by
  show dmaPay X c (slotNo (false, h, l)) = _
  unfold dmaPay
  have e : slotNo (false, h, l) = 2 + 4 * h.val + l.val := by simp only [slotNo, cond_false, Nat.add_zero]
  rw [if_pos (by omega), show (slotNo (false, h, l) - 2) / 4 = h.val by omega,
    show laneOf (slotNo (false, h, l) - 2) = l from Fin.ext (by simp only [laneOf]; omega)]
theorem payload_recv (h : Fin 6) (l : Fin 4) (d : Bool) : (ringRd X).payload (recvCell h l c) 0 d = recvPay X h.val l c := by
  show dmaPay X c (slotNo (true, h, l)) = _
  unfold dmaPay
  have e : slotNo (true, h, l) = 26 + 4 * h.val + l.val := by simp only [slotNo, cond_true]
  rw [if_neg (by omega), show (slotNo (true, h, l) - 26) / 4 = h.val by omega,
    show laneOf (slotNo (true, h, l) - 26) = l from Fin.ext (by simp only [laneOf]; omega)]

/-- The whole of a barrier cell's round: all landings of all lanes. -/
theorem rest_bar : bigSep ((ringRd X).duties (barCell c) 0 \ ∅) (fun d => (ringRd X).payload (barCell c) 0 d)
    = iprop((landings (F := F) c 0 ∗ landings (F := F) c 1) ∗ (landings (F := F) c 2 ∗ landings (F := F) c 3)) := by
  rw [Finset.sdiff_empty, duties_bar, bigSep_univ_eq_bigSepL [false, true] (by decide) (by decide), bigSepL_cons_cons, bigSepL_singleton]
  rfl
theorem rest_send (h : Fin 6) (l : Fin 4) :
    bigSep ((ringRd X).duties (sendCell h l c) 0 \ ∅) (fun d => (ringRd X).payload (sendCell h l c) 0 d) = sendPay X h.val l c := by
  rw [Finset.sdiff_empty, duties_own, bigSep_singleton, payload_send]
theorem rest_recv (h : Fin 6) (l : Fin 4) :
    bigSep ((ringRd X).duties (recvCell h l c) 0 \ ∅) (fun d => (ringRd X).payload (recvCell h l c) 0 d) = recvPay X h.val l c := by
  rw [Finset.sdiff_empty, duties_own, bigSep_singleton, payload_recv]

end Sched

/-! ## What a device owes, and the order of its waits -/

/-- The transfers of a device in the order it starts them: hop by hop, the lanes in the order 0, 2, 1, 3. -/
def order : List (Fin 6 × Fin 4) := (List.finRange 6).flatMap fun h => [(h, 0), (h, 2), (h, 1), (h, 3)]

/-- What device `c` owes for the transfers of a list still to be started: each one's credit on the receiver's cell. -/
def owedL (c : Dev nD) : List (Fin 6 × Fin 4) → CellTallies nD τ sig Unit
  | [] => 0
  | i :: L => owedL c L + tallyAt (recvCell i.1 i.2 (fwd i.2 c)) () N

/-- At launch it owes all its transfers and a unit on the barrier of either neighbour. -/
def O₁ (c : Dev nD) : CellTallies nD τ sig Unit := owedL c order + tallyAt (barCell (fwd 0 c)) () 1
def O₀ (c : Dev nD) : CellTallies nD τ sig Unit := O₁ c + tallyAt (barCell (fwd 2 c)) () 1

def L (g : GSem nD τ sig) : Finset Unit := if g.1.2 = .tc then {()} else ∅
/-- The levels: the receive cells of hop `h` at `h + 2`, barrier cells at 1, all others at 0. -/
def lvS : SemLoc sig → ℕ
  | .reg _ => 1
  | .dma n => if 26 ≤ n.val then (n.val - 26) / 4 + 2 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (h : Fin 6) (l : Fin 4) : lvS (osem (true, h, l)) = h.val + 2 := by revert h l; decide
theorem lv_send (h : Fin 6) (l : Fin 4) : lvS (osem (false, h, l)) = 0 := by revert h l; decide

/-- What is owed for a list is owed on receive cells of transfers of the list. -/
theorem owedL_pos {c : Dev nD} {g : GSem nD τ sig} {u : Unit} : ∀ {T : List (Fin 6 × Fin 4)}, 0 < owedL c T g u →
    ∃ i ∈ T, g = recvCell i.1 i.2 (fwd i.2 c)
  | [], h => absurd h (Nat.lt_irrefl 0)
  | i :: T, h => by
    rw [owedL, Pi.add_apply, Finsupp.add_apply, tallyAt_apply] at h
    by_cases hi : g = recvCell i.1 i.2 (fwd i.2 c) ∧ u = ()
    · exact ⟨i, List.mem_cons_self, hi.1⟩
    · rw [if_neg hi, Nat.add_zero] at h
      obtain ⟨i', hi', e⟩ := owedL_pos h
      exact ⟨i', List.mem_cons_of_mem _ hi', e⟩

/-- A device may wait on a cell of a level below every transfer it still has to start. -/
theorem mayWait_list (c : Dev nD) (s : SemLoc sig) (T : List (Fin 6 × Fin 4)) (hT : ∀ i ∈ T, lvS s < i.1.val + 2) :
    (levAts L lv : sProp 𝕄) ⊢ MayWait (c : Thread nD τ) s () (owedL c T) :=
  MayOwe.of_cut (L := L) (lev := lv) (lvS s) (fun p hp => by rw [Finset.mem_singleton.mp hp, L_tc]; exact Finset.mem_singleton_self _)
    (fun g u hg => by obtain ⟨i, -, rfl⟩ := owedL_pos hg; exact Finset.mem_singleton_self _)
    (fun p hp => by rw [Finset.mem_singleton.mp hp]; exact le_refl _)
    (fun g u hg => by
      obtain ⟨i, hi, rfl⟩ := owedL_pos hg
      show lvS s < lvS (osem (true, i.1, i.2))
      rw [lv_recv]; exact hT i hi)

end Cert.RingReduce

end
-- ==== Proof.Steps.lean ====
/-
# The steps of a device's run

A device's state while its body runs (`St`): the shared records of all cells, its barrier cell at zero, what it still owes,
and per lane the state of its six transfers out, its six transfers in, the blocks of `x` it has not sent, and the blocks
it holds at the moment. One theorem per kind of effect says what that effect does to the state, for every hop and lane.
-/
module

public import proofs.«01_k».proof.Proof.Proto

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

abbrev 𝒱₀ : Variants := Variants.none

/-- The weakest precondition of a piece of a device's body. -/
abbrev wpc (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

/-! ## The state -/

/-- What every device knows: each cell's invariant, that each cell has reached round 0, and the levels. -/
def records (K : Dev nD × (Unit ⊕ Slot) → ℕ) : sProp 𝕄 :=
  iprop((bigSep Finset.univ fun ck : Dev nD × (Unit ⊕ Slot) => cellInv ER (ringRd X) (K ck) (kcell ck))
    ∗ (bigSep Finset.univ fun ck : Dev nD × (Unit ⊕ Slot) => reached ER (kcell ck) 0) ∗ levAts L lv)

instance records_persistent (K : Dev nD × (Unit ⊕ Slot) → ℕ) : BI.Persistent (records X K) := by unfold records; infer_instance

theorem records_inv (K : Dev nD × (Unit ⊕ Slot) → ℕ) (ck : Dev nD × (Unit ⊕ Slot)) :
    records X K ⊢ cellInv ER (ringRd X) (K ck) (kcell ck) :=
  sep_elim_left.trans (bigSep_elim (Finset.mem_univ ck))
theorem records_reached (K : Dev nD × (Unit ⊕ Slot) → ℕ) (ck : Dev nD × (Unit ⊕ Slot)) :
    records X K ⊢ reached ER (kcell ck) 0 :=
  sep_elim_right.trans (sep_elim_left.trans (bigSep_elim (Finset.mem_univ ck)))
theorem records_levels (K : Dev nD × (Unit ⊕ Slot) → ℕ) : records X K ⊢ levAts L lv := by
  unfold records
  iintro ⟨-, -, H⟩; iexact H

/-- Where a lane stands: `a` transfers started, `b` transfers received, `d` of the started ones seen to end, and what the
    device holds of the lane besides. -/
structure LP (F : FTy → Type) [FloatOps F] where
  a : ℕ
  b : ℕ
  d : ℕ
  M : sProp (MT nD τ sig Unit (Elt F) ℕ UU ℕ)

/-- A transfer not started: its two duty tokens, its landing place, the position on its send cell. -/
def sendTodo (c : Dev nD) (h : Fin 6) (l : Fin 4) : sProp 𝕄 :=
  iprop(dutyTok ER (sendCell h l c) 0 false ∗ dutyTok ER (recvCell h l (fwd l c)) 0 false ∗ blkAny (F := F) (fwd l c) (dstM h.val l c)
    ∗ atPos ER (sendCell h l c) 0 ∅ 0)
/-- A transfer under way: the credit of its end, the position on its send cell. -/
def sendFly (c : Dev nD) (h : Fin 6) (l : Fin 4) : sProp 𝕄 :=
  iprop(cred (tallyAt (sendCell h l c) () N) ∗ atPos ER (sendCell h l c) 0 ∅ 0)
def sendSt (c : Dev nD) (l : Fin 4) (a d : ℕ) (h : Fin 6) : sProp 𝕄 :=
  if h.val < a then (if h.val < d then semVal (sendCell h l c) 0 else sendFly (F := F) c h l) else sendTodo (F := F) c h l
/-- A transfer to be received: the credit of its landing, the position on its receive cell. -/
def recvTodo (c : Dev nD) (h : Fin 6) (l : Fin 4) : sProp 𝕄 :=
  iprop(cred (tallyAt (recvCell h l c) () N) ∗ atPos ER (recvCell h l c) 0 ∅ 0)
def recvSt (c : Dev nD) (l : Fin 4) (b : ℕ) (h : Fin 6) : sProp 𝕄 :=
  if h.val < b then semVal (recvCell h l c) 0 else recvTodo (F := F) c h l

/-- The blocks of `x` of a lane that are added at hops 1 to 3. -/
def xRest (c : Dev nD) (l : Fin 4) : sProp 𝕄 :=
  bigSep Finset.univ fun j : Fin 3 => blk c (xP (chk l (j.val + 1) c) l) (xblk X c (chk l (j.val + 1) c) l)

def Lane (c : Dev nD) (l : Fin 4) (p : LP F) : sProp 𝕄 :=
  iprop((bigSep Finset.univ fun h : Fin 6 => sendSt (F := F) c l p.a p.d h) ∗ (bigSep Finset.univ fun h : Fin 6 => recvSt (F := F) c l p.b h)
    ∗ xRest X c l ∗ p.M)

def St (K : Dev nD × (Unit ⊕ Slot) → ℕ) (c : Dev nD) (T : List (Fin 6 × Fin 4)) (p : Fin 4 → LP F) : sProp 𝕄 :=
  iprop(records X K ∗ semVal (barCell c) 0 ∗ (∃ W, owes (c : Thread nD τ) (owedL c T) W) ∗ bigSep Finset.univ fun l : Fin 4 => Lane X c l (p l))

/-- The lanes with lane `l` put at `y`. -/
def upd (p : Fin 4 → LP F) (l : Fin 4) (y : LP F) : Fin 4 → LP F := fun l' => if l' = l then y else p l'

theorem lane_turn (c : Dev nD) (p : Fin 4 → LP F) (l : Fin 4) (y : LP F) :
    (bigSep Finset.univ fun l' : Fin 4 => Lane X c l' (p l'))
      ⊢ iprop(Lane X c l (p l) ∗ (Lane X c l y -∗ bigSep Finset.univ fun l' : Fin 4 => Lane X c l' (upd p l y l'))) := by
  have h := bigSep_univ_update (Φ := fun l' : Fin 4 => Lane X c l' (p l')) (Ψ := fun l' : Fin 4 => Lane X c l' (upd p l y l')) l
    (fun j hj => by simp only [upd, if_neg hj])
  have e : upd p l y l = y := if_pos rfl
  rw [e] at h
  exact h

theorem send_turn (c : Dev nD) (l : Fin 4) (h : Fin 6) (d : ℕ) :
    (bigSep Finset.univ fun j : Fin 6 => sendSt (F := F) c l h.val d j)
      ⊢ iprop(sendSt (F := F) c l h.val d h ∗ (sendSt (F := F) c l (h.val + 1) d h -∗ bigSep Finset.univ fun j : Fin 6 => sendSt (F := F) c l (h.val + 1) d j)) :=
  bigSep_univ_update h fun j hj => by
    have e : (j.val < h.val + 1) = (j.val < h.val) := by
      have : j.val ≠ h.val := fun e => hj (Fin.ext e)
      exact propext ⟨fun _ => by omega, fun _ => by omega⟩
    simp only [sendSt, e]
theorem end_turn (c : Dev nD) (l : Fin 4) (h : Fin 6) (a : ℕ) :
    (bigSep Finset.univ fun j : Fin 6 => sendSt (F := F) c l a h.val j)
      ⊢ iprop(sendSt (F := F) c l a h.val h ∗ (sendSt (F := F) c l a (h.val + 1) h -∗ bigSep Finset.univ fun j : Fin 6 => sendSt (F := F) c l a (h.val + 1) j)) :=
  bigSep_univ_update h fun j hj => by
    have e : (j.val < h.val + 1) = (j.val < h.val) := by
      have : j.val ≠ h.val := fun e => hj (Fin.ext e)
      exact propext ⟨fun _ => by omega, fun _ => by omega⟩
    simp only [sendSt, e]
theorem recv_turn (c : Dev nD) (l : Fin 4) (h : Fin 6) :
    (bigSep Finset.univ fun j : Fin 6 => recvSt (F := F) c l h.val j)
      ⊢ iprop(recvSt (F := F) c l h.val h ∗ (recvSt (F := F) c l (h.val + 1) h -∗ bigSep Finset.univ fun j : Fin 6 => recvSt (F := F) c l (h.val + 1) j)) :=
  bigSep_univ_update h fun j hj => by
    have e : (j.val < h.val + 1) = (j.val < h.val) := by
      have : j.val ≠ h.val := fun e => hj (Fin.ext e)
      exact propext ⟨fun _ => by omega, fun _ => by omega⟩
    simp only [recvSt, e]

theorem sendSt_todo (c : Dev nD) (l : Fin 4) (h : Fin 6) (d : ℕ) : sendSt (F := F) c l h.val d h = sendTodo (F := F) c h l :=
  if_neg (Nat.lt_irrefl _)
theorem sendSt_fly (c : Dev nD) (l : Fin 4) (h : Fin 6) (a d : ℕ) (ha : h.val < a) (hd : d ≤ h.val) : sendSt (F := F) c l a d h = sendFly (F := F) c h l := by
  unfold sendSt; rw [if_pos ha, if_neg (by omega)]
theorem sendSt_done (c : Dev nD) (l : Fin 4) (h : Fin 6) (a d : ℕ) (ha : h.val < a) (hd : h.val < d) :
    sendSt (F := F) c l a d h = (semVal (sendCell h l c) 0 : sProp 𝕄) := by
  unfold sendSt; rw [if_pos ha, if_pos hd]
theorem recvSt_todo (c : Dev nD) (l : Fin 4) (h : Fin 6) : recvSt (F := F) c l h.val h = recvTodo (F := F) c h l :=
  if_neg (Nat.lt_irrefl _)
theorem recvSt_done (c : Dev nD) (l : Fin 4) (h : Fin 6) (b : ℕ) (hb : h.val < b) : recvSt (F := F) c l b h = (semVal (recvCell h l c) 0 : sProp 𝕄) :=
  if_pos hb

theorem sendTodo_open (c : Dev nD) (h : Fin 6) (l : Fin 4) (d : ℕ) :
    sendSt (F := F) c l h.val d h ⊢ iprop(dutyTok ER (sendCell h l c) 0 false ∗ dutyTok ER (recvCell h l (fwd l c)) 0 false
      ∗ blkAny (F := F) (fwd l c) (dstM h.val l c) ∗ atPos ER (sendCell h l c) 0 ∅ 0) := Entails.of_eq (sendSt_todo c l h d)
theorem sendFly_close (c : Dev nD) (h : Fin 6) (l : Fin 4) (d : ℕ) (hd : d ≤ h.val) :
    iprop(cred (tallyAt (sendCell h l c) () N) ∗ atPos ER (sendCell h l c) 0 ∅ 0) ⊢ sendSt (F := F) c l (h.val + 1) d h :=
  Entails.of_eq (sendSt_fly c l h _ _ (Nat.lt_succ_self _) hd).symm
theorem sendFly_open (c : Dev nD) (h : Fin 6) (l : Fin 4) (a : ℕ) (ha : h.val < a) :
    sendSt (F := F) c l a h.val h ⊢ iprop(cred (tallyAt (sendCell h l c) () N) ∗ atPos ER (sendCell h l c) 0 ∅ 0) :=
  Entails.of_eq (sendSt_fly c l h a _ ha (le_refl _))
theorem recvTodo_open (c : Dev nD) (h : Fin 6) (l : Fin 4) :
    recvSt (F := F) c l h.val h ⊢ iprop(cred (tallyAt (recvCell h l c) () N) ∗ atPos ER (recvCell h l c) 0 ∅ 0) :=
  Entails.of_eq (recvSt_todo c l h)
theorem blk_open (c : Dev nD) (m : Memref sig .tc .vmem S512x256 .f32) (V : Blk F) :
    blk c m V ⊢ (iprop(∃ f, ⌜m.view.read (Elt F) f = V⌝ ∗ (m.view.loc (c : Thread nD τ) ↦[m.view.set]{fullShare} f)) : sProp 𝕄) :=
  Entails.refl _
theorem blk_close (c : Dev nD) (m : Memref sig .tc .vmem S512x256 .f32) (V : Blk F) (f : m.view.ty.Contents (Elt F)) (hf : m.view.read (Elt F) f = V) :
    (m.view.loc (c : Thread nD τ) ↦[m.view.set]{fullShare} f : sProp 𝕄) ⊢ blk c m V := by
  subst hf; exact owns_intro _ _ _ _
theorem blkAny_open (c : Dev nD) (m : Memref sig .tc .vmem S512x256 .f32) :
    blkAny (F := F) c m ⊢ (iprop(∃ f, (m.view.loc (c : Thread nD τ) ↦[m.view.set]{fullShare} f)) : sProp 𝕄) := by
  unfold blkAny
  iintro ⟨%V, H⟩
  ihave H := (blk_open c m V) $$ H
  icases H with ⟨%f, -, H⟩
  iexists f; iexact H

/-- The block a device sends at hop `h`, as it holds it. -/
abbrev srcB (c : Dev nD) (l : Fin 4) (h : ℕ) : sProp 𝕄 := sendPay X h l c
/-- The block that came in at hop `h`, as the device holds it. -/
abbrev rcvB (c : Dev nD) (l : Fin 4) (h : ℕ) : sProp 𝕄 := recvPay X h l c
/-- The device's own place in the result, before it is written. -/
def outB (c : Dev nD) (l : Fin 4) : sProp 𝕄 := blkAny (F := F) c (oP (chk l 3 c) l)

/-- From hop 3 on, what came in is what is sent next. -/
theorem rcvB_eq (c : Dev nD) (l : Fin 4) (h : ℕ) : rcvB X c l (h + 3) = srcB X c l (h + 4) := by
  show blk c (oP (chk l (h + 3) (bwd l c)) l) (VS X (h + 3) l (bwd l c)) = blk c (oP (chk l (h + 4) c) l) (VS X (h + 4) l c)
  rw [chk_succ l (h + 3) c, show VS X (h + 4) l c = VS X (h + 3) l (bwd l c) from if_neg (by omega)]

/-- A state with one lane taken out, and how it goes back in another condition. -/
theorem st_open (K : Dev nD × (Unit ⊕ Slot) → ℕ) (c : Dev nD) {T : List (Fin 6 × Fin 4)} {p : Fin 4 → LP F} (l : Fin 4) {a b d : ℕ} {M : sProp 𝕄}
    (hp : p l = ⟨a, b, d, M⟩) (y : LP F) :
    St X K c T p ⊢ iprop(records X K ∗ semVal (barCell c) 0 ∗ (∃ W, owes (c : Thread nD τ) (owedL c T) W)
      ∗ (bigSep Finset.univ fun h : Fin 6 => sendSt (F := F) c l a d h) ∗ (bigSep Finset.univ fun h : Fin 6 => recvSt (F := F) c l b h)
      ∗ xRest X c l ∗ M ∗ (Lane X c l y -∗ bigSep Finset.univ fun l' : Fin 4 => Lane X c l' (upd p l y l'))) := by
  have h := lane_turn X c p l y
  rw [hp] at h
  unfold St
  iintro ⟨Hrec, HB, HO, HL⟩
  ihave HL := h $$ HL
  icases HL with ⟨Hl, Hback⟩
  ihave Hl := (show Lane X c l ⟨a, b, d, M⟩ ⊢ iprop((bigSep Finset.univ fun h : Fin 6 => sendSt (F := F) c l a d h)
      ∗ (bigSep Finset.univ fun h : Fin 6 => recvSt (F := F) c l b h) ∗ xRest X c l ∗ M) from Entails.refl _) $$ Hl
  icases Hl with ⟨Hs, Hr, HX, HM⟩
  isplitl [Hrec]; · iexact Hrec
  isplitl [HB]; · iexact HB
  isplitl [HO]; · iexact HO
  isplitl [Hs]; · iexact Hs
  isplitl [Hr]; · iexact Hr
  isplitl [HX]; · iexact HX
  isplitl [HM]; · iexact HM
  iexact Hback

theorem st_close (K : Dev nD × (Unit ⊕ Slot) → ℕ) (c : Dev nD) {T : List (Fin 6 × Fin 4)} {p : Fin 4 → LP F} (l : Fin 4) (a b d : ℕ) (M : sProp 𝕄) :
    iprop(records X K ∗ semVal (barCell c) 0 ∗ (∃ W, owes (c : Thread nD τ) (owedL c T) W)
      ∗ (bigSep Finset.univ fun h : Fin 6 => sendSt (F := F) c l a d h) ∗ (bigSep Finset.univ fun h : Fin 6 => recvSt (F := F) c l b h)
      ∗ xRest X c l ∗ M ∗ (Lane X c l ⟨a, b, d, M⟩ -∗ bigSep Finset.univ fun l' : Fin 4 => Lane X c l' (upd p l ⟨a, b, d, M⟩ l')))
      ⊢ St X K c T (upd p l ⟨a, b, d, M⟩) := by
  unfold St
  iintro ⟨Hrec, HB, HO, Hs, Hr, HX, HM, Hback⟩
  isplitl [Hrec]; · iexact Hrec
  isplitl [HB]; · iexact HB
  isplitl [HO]; · iexact HO
  iapply Hback
  iapply (show iprop((bigSep Finset.univ fun h : Fin 6 => sendSt (F := F) c l a d h)
      ∗ (bigSep Finset.univ fun h : Fin 6 => recvSt (F := F) c l b h) ∗ xRest X c l ∗ M) ⊢ Lane X c l ⟨a, b, d, M⟩ from Entails.refl _)
  isplitl [Hs]; · iexact Hs
  isplitl [Hr]; · iexact Hr
  isplitl [HX]; · iexact HX
  iexact HM

/-! ## The steps -/

variable (K : Dev nD × (Unit ⊕ Slot) → ℕ) (c : Dev nD) {T T' : List (Fin 6 × Fin 4)} {p : Fin 4 → LP F} {α : Type}

/-- Starting the transfer of hop `h` in lane `l`. -/
theorem st_send (h : Fin 6) (l : Fin 4) {b d : ℕ} {M : sProp 𝕄} {Q : α → sProp 𝕄} (hp : p l = ⟨h.val, b, d, iprop(srcB X c l h.val ∗ M)⟩) (hd : d ≤ h.val)
    (hT : T = (h, l) :: T') {n : Dev nD} (hn : n = fwd l c)
    {src : Memref sig .tc .vmem S512x256 .f32} (hsrc : src = srcM h.val l c)
    {dst : Memref sig (Dev.tc n : Thread nD τ).2.kind .vmem S512x256 .f32} (hdst : dst = dstM h.val l c)
    {sS sem : SemLoc sig} (hsS : sS = osem (false, h, l)) (hsem : sem = osem (true, h, l))
    {hsc : dst.view.ref.isScScratch = false} {hs : src.view.WordExact} {hd' : dst.view.WordExact}
    {hty : DmaTarget.Typed .vmem sem (.remote (Dev.tc n : Thread nD τ) dst sS hsc)}
    {k : PUnit → Prog (TpuEff nD τ sig (Elt F) Λ₀ .tc) α}
    (H : St X K c T' (upd p l ⟨h.val + 1, b, d, M⟩) ⊢ wpc c (k ⟨⟩) Q) :
    St X K c T p ⊢ wpc c (.op (.enqueueDma src (.remote (Dev.tc n : Thread nD τ) dst sS hsc) sem hs hd' hty) k) Q := by
  subst hn hsrc hdst hsS hsem hT
  refine (st_open X K c l hp ⟨h.val + 1, b, d, M⟩).trans ?_
  iintro ⟨#Hrec, HB, ⟨%W, HO⟩, Hs, Hr, HX, ⟨Hsrc, HM⟩, Hback⟩
  ihave Hs := (send_turn (F := F) c l h d) $$ Hs
  icases Hs with ⟨Hs, Hsb⟩
  ihave Hs := (sendTodo_open (F := F) c h l d) $$ Hs
  icases Hs with ⟨Ht1, Ht2, Hdst, Hat⟩
  ihave Hdst := (blkAny_open (F := F) (fwd l c) (dstM h.val l c)) $$ Hdst
  icases Hdst with ⟨%fd, Hdst⟩
  ihave Hsrc := (show srcB X c l h.val ⊢ blk c (srcM h.val l c) (VS X h.val l c) from Entails.refl _) $$ Hsrc
  ihave Hsrc := (blk_open c (srcM h.val l c) (VS X h.val l c)) $$ Hsrc
  icases Hsrc with ⟨%fs, %hfs, Hsrc⟩
  iapply (Rounds.wp_send_pointsTo 𝒱₀ ER (ringRd X) (c : Thread nD τ) none (κ₁ := K (c, .inr (false, h, l))) (κ₂ := K (fwd l c, .inr (true, h, l)))
    (r₁ := 0) (r₂ := 0) (d₁ := false) (d₂ := false) (fd := fd) (fs := fs) (q := fullShare) (sem := osem (true, h, l))
    (by rw [duties_own]; exact Finset.mem_singleton_self _) (by rw [duties_own]; exact Finset.mem_singleton_self _)
    () () N (credit_dst h.val l c) (amount_own X c _ false) (amount_own X (fwd l c) _ false) (owedL c T') rfl (W := W)
    (by rw [payload_send]; exact blk_close _ _ _ _ hfs)
    (by
      rw [payload_recv]; unfold recvPay; rw [bwd_fwd]
      exact blk_close _ _ _ _ ((View.read_write_univ _ _).trans hfs))) $$ [Hsrc Hdst HO Ht1 Ht2]
  · isplitr; · iapply (records_inv X K (c, .inr (false, h, l))); iexact Hrec
    isplitr; · iapply (records_inv X K (fwd l c, .inr (true, h, l))); iexact Hrec
    isplitl [Hsrc]; · iexact Hsrc
    isplitl [Hdst]; · iexact Hdst
    isplitl [HO]; · iexact HO
    isplitl [Ht1]; · iexact Ht1
    isplitr; · iapply (records_reached X K (c, .inr (false, h, l))); iexact Hrec
    isplitl [Ht2]; · iexact Ht2
    iapply (records_reached X K (fwd l c, .inr (true, h, l))); iexact Hrec
  iintro ⟨Hcr, HO⟩
  iapply H
  iapply (st_close X K c l (h.val + 1) b d M)
  isplitr; · iexact Hrec
  isplitl [HB]; · iexact HB
  isplitl [HO]; · iexists W; iexact HO
  isplitl [Hsb Hcr Hat]
  · iapply Hsb
    iapply (sendFly_close (F := F) c h l d hd)
    isplitl [Hcr]; · iexact Hcr
    iexact Hat
  isplitl [Hr]; · iexact Hr
  isplitl [HX]; · iexact HX
  isplitl [HM]; · iexact HM
  iexact Hback

/-- Waiting for a transfer's credit on a semaphore of the device's own: the payload, the counter at zero, what is owed unchanged. -/
theorem own_wait (j : Slot) {Q : α → sProp 𝕄} (hT : ∀ i ∈ T, lvS (osem j) < i.1.val + 2) {sem : DmaSem sig} (hsem : SemLoc.dma sem = osem j)
    {sp sp' : Space} {s s' : Shape} {e e' : EltTy} {src : Memref sig .tc sp' s' e'} {dst : Memref sig .tc sp s e} (hN : dst.view.dmaCredit = N)
    {hs : src.view.WordExact} {hd' : dst.view.WordExact} {k : PUnit → Prog (TpuEff nD τ sig (Elt F) Λ₀ .tc) α} :
    iprop(records X K ∗ cred (tallyAt ((c : Thread nD τ), osem j) () N) ∗ atPos ER ((c : Thread nD τ), osem j) 0 ∅ 0
        ∗ (∃ W, owes (c : Thread nD τ) (owedL c T) W))
      ⊢ iprop((((bigSep ((ringRd X).duties ((c : Thread nD τ), osem j) 0 \ ∅) (fun d => (ringRd X).payload ((c : Thread nD τ), osem j) 0 d))
          ∗ semVal ((c : Thread nD τ), osem j) 0 ∗ (∃ W, owes (c : Thread nD τ) (owedL c T) W)) -∗ wpc c (k ⟨⟩) Q)
        -∗ wpc c (.op (.waitDma2 sem src dst hs hd') k) Q) := by
  iintro ⟨#Hrec, Hcr, Hat, ⟨%W, HO⟩⟩ Hk
  iapply (Rounds.wp_wait_rest_token 𝒱₀ ER (ringRd X) (c : Thread nD τ) none (sm := osem j) (k' := N) (κ := K (c, .inr j))
      (fun K' => by rw [← hsem, ← hN]; exact wpE_waitDma2_eq 𝒱₀ (c : Thread nD τ) none Set.univ K')
      (Set.mem_univ _) () (O := owedL c T) (W := W) (R := 0) (m := 0) (T := ∅)
      (by rw [expect_own, Nat.zero_add])) $$ [Hcr HO Hat]
  · isplitr; · iapply (records_inv X K (c, .inr j)); iexact Hrec
    isplitl [Hcr]; · iexact Hcr
    isplitl [HO]; · iexact HO
    isplitr
    · iapply (mayWait_list c _ T hT)
      iapply (records_levels X K); iexact Hrec
    iexact Hat
  iintro ⟨HO, Hat, -, Hpay⟩
  imod (Rounds.cell_close ER (ringRd X) (Set.mem_univ (K (c, .inr j))) (fun h => h) (R := 0 + 1) (duties_later X ((c : Thread nD τ), osem j))) $$ [Hat] with Hz
  · isplitr; · iapply (records_inv X K (c, .inr j)); iexact Hrec
    iexact Hat
  iapply Hk
  isplitl [Hpay]; · iexact Hpay
  isplitl [Hz]; · iexact Hz
  iexists _; iexact HO

/-- Waiting for the transfer of hop `h` in lane `l` to come in. -/
theorem st_recv (h : Fin 6) (l : Fin 4) {a d : ℕ} {M : sProp 𝕄} {Q : α → sProp 𝕄} (hp : p l = ⟨a, h.val, d, M⟩)
    (hT : ∀ i ∈ T, h.val < i.1.val) {sem : DmaSem sig} (hsem : SemLoc.dma sem = osem (true, h, l))
    {sp sp' : Space} {s s' : Shape} {e e' : EltTy} {src : Memref sig .tc sp' s' e'} {dst : Memref sig .tc sp s e} (hN : dst.view.dmaCredit = N)
    {hs : src.view.WordExact} {hd' : dst.view.WordExact}
    {k : PUnit → Prog (TpuEff nD τ sig (Elt F) Λ₀ .tc) α}
    (H : St X K c T (upd p l ⟨a, h.val + 1, d, iprop(rcvB X c l h.val ∗ M)⟩) ⊢ wpc c (k ⟨⟩) Q) :
    St X K c T p ⊢ wpc c (.op (.waitDma2 sem src dst hs hd') k) Q := by
  refine (st_open X K c l hp ⟨a, h.val + 1, d, iprop(rcvB X c l h.val ∗ M)⟩).trans ?_
  iintro ⟨#Hrec, HB, HO, Hs, Hr, HX, HM, Hback⟩
  ihave Hr := (recv_turn (F := F) c l h) $$ Hr
  icases Hr with ⟨Hr, Hrb⟩
  ihave Hr := (recvTodo_open (F := F) c h l) $$ Hr
  icases Hr with ⟨Hcr, Hat⟩
  iapply (own_wait X K c (true, h, l) (T := T) (fun i hi => by rw [lv_recv]; have := hT i hi; omega) hsem hN) $$ [Hcr Hat HO]
  · isplitr; · iexact Hrec
    isplitl [Hcr]; · iexact Hcr
    isplitl [Hat]; · iexact Hat
    iexact HO
  iintro ⟨Hpay, Hz, HO⟩
  ihave Hp := (Entails.of_eq (rest_recv X c h l)) $$ Hpay
  iapply H
  iapply (st_close X K c l a (h.val + 1) d iprop(rcvB X c l h.val ∗ M))
  isplitr; · iexact Hrec
  isplitl [HB]; · iexact HB
  isplitl [HO]; · iexact HO
  isplitl [Hs]; · iexact Hs
  isplitl [Hrb Hz]
  · iapply Hrb
    iapply (Entails.of_eq (recvSt_done (F := F) c l h _ (Nat.lt_succ_self _)).symm)
    iexact Hz
  isplitl [HX]; · iexact HX
  isplitl [Hp HM]
  · isplitl [Hp]; · iexact Hp
    iexact HM
  iexact Hback

/-- From hop 3 on the block that comes in is the one to be sent next. -/
theorem st_recv_on (h : Fin 6) (l : Fin 4) (h3 : 3 ≤ h.val) {a d : ℕ} {M : sProp 𝕄} {Q : α → sProp 𝕄} (hp : p l = ⟨a, h.val, d, M⟩)
    (hT : ∀ i ∈ T, h.val < i.1.val) {sem : DmaSem sig} (hsem : SemLoc.dma sem = osem (true, h, l))
    {sp sp' : Space} {s s' : Shape} {e e' : EltTy} {src : Memref sig .tc sp' s' e'} {dst : Memref sig .tc sp s e} (hN : dst.view.dmaCredit = N)
    {hs : src.view.WordExact} {hd' : dst.view.WordExact}
    {k : PUnit → Prog (TpuEff nD τ sig (Elt F) Λ₀ .tc) α}
    (H : St X K c T (upd p l ⟨a, h.val + 1, d, iprop(srcB X c l (h.val + 1) ∗ M)⟩) ⊢ wpc c (k ⟨⟩) Q) :
    St X K c T p ⊢ wpc c (.op (.waitDma2 sem src dst hs hd') k) Q := by
  have e : rcvB X c l h.val = srcB X c l (h.val + 1) := by
    obtain ⟨n, hn⟩ := Nat.exists_eq_add_of_le' h3
    rw [hn]; exact rcvB_eq X c l n
  rw [← e] at H
  exact st_recv X K c h l hp hT hsem hN H

/-- Waiting for the device's own transfer of hop `h` in lane `l` to end. -/
theorem st_end (h : Fin 6) (l : Fin 4) {a b : ℕ} {M : sProp 𝕄} {Q : α → sProp 𝕄} (hp : p l = ⟨a, b, h.val, M⟩) (ha : h.val < a)
    {sem : DmaSem sig} (hsem : SemLoc.dma sem = osem (false, h, l))
    {sp sp' : Space} {s s' : Shape} {e e' : EltTy} {src : Memref sig .tc sp' s' e'} {dst : Memref sig .tc sp s e} (hN : dst.view.dmaCredit = N)
    {hs : src.view.WordExact} {hd' : dst.view.WordExact}
    {k : PUnit → Prog (TpuEff nD τ sig (Elt F) Λ₀ .tc) α}
    (H : St X K c T (upd p l ⟨a, b, h.val + 1, iprop(srcB X c l h.val ∗ M)⟩) ⊢ wpc c (k ⟨⟩) Q) :
    St X K c T p ⊢ wpc c (.op (.waitDma2 sem src dst hs hd') k) Q := by
  refine (st_open X K c l hp ⟨a, b, h.val + 1, iprop(srcB X c l h.val ∗ M)⟩).trans ?_
  iintro ⟨#Hrec, HB, HO, Hs, Hr, HX, HM, Hback⟩
  ihave Hs := (end_turn (F := F) c l h a) $$ Hs
  icases Hs with ⟨Hs, Hsb⟩
  ihave Hs := (sendFly_open (F := F) c h l a ha) $$ Hs
  icases Hs with ⟨Hcr, Hat⟩
  iapply (own_wait X K c (false, h, l) (T := T) (fun i hi => by rw [lv_send]; omega) hsem hN) $$ [Hcr Hat HO]
  · isplitr; · iexact Hrec
    isplitl [Hcr]; · iexact Hcr
    isplitl [Hat]; · iexact Hat
    iexact HO
  iintro ⟨Hpay, Hz, HO⟩
  ihave Hp := (Entails.of_eq (rest_send X c h l)) $$ Hpay
  iapply H
  iapply (st_close X K c l a b (h.val + 1) iprop(srcB X c l h.val ∗ M))
  isplitr; · iexact Hrec
  isplitl [HB]; · iexact HB
  isplitl [HO]; · iexact HO
  isplitl [Hsb Hz]
  · iapply Hsb
    iapply (Entails.of_eq (sendSt_done (F := F) c l h _ _ ha (Nat.lt_succ_self _)).symm)
    iexact Hz
  isplitl [Hr]; · iexact Hr
  isplitl [HX]; · iexact HX
  isplitl [Hp HM]
  · isplitl [Hp]; · iexact Hp
    iexact HM
  iexact Hback

end Cert.RingReduce

end
-- ==== Proof.Mem.lean ====
/-
# Loads and stores

The vector loads and stores of a device's body, as steps of its state: a landing slot read and rewritten with the device's
own block added, a block of `x` read, the device's place in the result read and written.
-/
module

public import proofs.«01_k».proof.Proof.Steps

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## Slots and blocks -/

/-- A block as a landing slot holds it, with its axis of one. -/
abbrev lift1 (V : Blk F) : S1x512x256.Idx → Elt F .f32 := shapeCast S1x512x256 V Facts₀.shapeCasts_S512x256_S1x512x256

theorem slot_read (h : Fin 3) (l : Fin 4) (f : (rsP h l).view.ty.Contents (Elt F)) :
    (rsP h l).view.read (Elt F) f = shapeCast S512x256 (((rsW l).access (slotR h l)).read (Elt F) f) Facts₀.shapeCasts_S1x512x256_S512x256 := rfl
theorem slot_read_lift (h : Fin 3) (l : Fin 4) (f : (rsP h l).view.ty.Contents (Elt F)) (V : Blk F) (hf : (rsP h l).view.read (Elt F) f = V) :
    ((rsW l).access (slotR h l)).read (Elt F) f = lift1 V := by
  rw [← hf, slot_read]; exact (shapeCast_shapeCast _ _ _).symm
theorem slot_write (h : Fin 3) (l : Fin 4) (f : (rsP h l).view.ty.Contents (Elt F)) (V : Blk F) :
    (rsP h l).view.read (Elt F) (((rsW l).access (slotR h l)).write (Elt F) f (lift1 V) Finset.univ) = V := by
  refine (slot_read h l _).trans ?_
  exact (congrArg (fun v => shapeCast S512x256 v Facts₀.shapeCasts_S1x512x256_S512x256)
    (View.read_write_univ (v := (rsW l).access (slotR h l)) f (lift1 V))).trans (shapeCast_shapeCast _ _ _)
theorem slot_set (h : Fin 3) (l : Fin 4) : ((rsW l).access (slotR h l)).set = (rsP h l).view.set := (View.set_reshape _ _).symm

/-- The sum a device stores in a landing slot: what came in with its own block added. -/
theorem pay_slot (c : Dev nD) (l : Fin 4) (h : ℕ) (h3 : h < 3) :
    k0_pay1 (F := F) (lift1 (VS X h l (bwd l c))) (xblk X c (chk l (h + 1) c) l) = lift1 (VS X (h + 1) l c) := by
  have e : VS X (h + 1) l c = addf (VS X h l (bwd l c) : FVec F S512x256 .f32) (xblk X c (chk l (h + 1) c) l) := if_pos h3
  rw [e]
  unfold k0_pay1 lift1
  simp only [shapeCast_shapeCast, shapeCast_self]
/-- The sum a device stores in the result. -/
theorem pay_out (c : Dev nD) (l : Fin 4) (h : ℕ) (h3 : h < 3) :
    k0_pay12 (F := F) (lift1 (VS X h l (bwd l c))) (xblk X c (chk l (h + 1) c) l) = VS X (h + 1) l c := by
  have e : VS X (h + 1) l c = addf (VS X h l (bwd l c) : FVec F S512x256 .f32) (xblk X c (chk l (h + 1) c) l) := if_pos h3
  rw [e]
  unfold k0_pay12 lift1
  simp only [shapeCast_shapeCast, shapeCast_self]

theorem rcvB_slot (c : Dev nD) (l : Fin 4) (h : Fin 3) : rcvB X c l h.val = blk c (rsP h l) (VS X h.val l (bwd l c)) := by
  fin_cases h <;> rfl
theorem srcB_slot (c : Dev nD) (l : Fin 4) (h : Fin 3) (h2 : h.val < 2) : srcB X c l (h.val + 1) = blk c (rsP h l) (VS X (h.val + 1) l c) := by
  obtain ⟨_ | _ | h, _⟩ := h
  · rfl
  · rfl
  · exact absurd h2 (by simp)

theorem upd_same {p : Fin 4 → LP F} {l : Fin 4} {y : LP F} (hp : p l = y) : upd p l y = p := by
  subst hp
  funext l'
  by_cases h : l' = l
  · subst h; exact if_pos rfl
  · exact if_neg h

/-! ## The steps -/

variable (K : Dev nD × (Unit ⊕ Slot) → ℕ) (c : Dev nD) {T : List (Fin 6 × Fin 4)} {p : Fin 4 → LP F} {α : Type}

/-- A step on what a lane holds, nothing else of the state taking part. -/
theorem st_mem (l : Fin 4) {a b d : ℕ} {M M' R R' : sProp 𝕄} (hp : p l = ⟨a, b, d, M⟩) (hM : M ⊢ iprop((M' -∗ R') -∗ R))
    (H : St X K c T (upd p l ⟨a, b, d, M'⟩) ⊢ R') : St X K c T p ⊢ R := by
  refine (st_open X K c l hp ⟨a, b, d, M'⟩).trans ?_
  iintro ⟨Hrec, HB, HO, Hs, Hr, HX, HM, Hback⟩
  ihave HM := hM $$ HM
  iapply HM
  iintro HM
  iapply H
  iapply (st_close X K c l a b d M')
  isplitl [Hrec]; · iexact Hrec
  isplitl [HB]; · iexact HB
  isplitl [HO]; · iexact HO
  isplitl [Hs]; · iexact Hs
  isplitl [Hr]; · iexact Hr
  isplitl [HX]; · iexact HX
  isplitl [HM]; · iexact HM
  iexact Hback

/-- Loading the landing slot of a hop whose contents are held. -/
theorem slot_load (h : Fin 3) (l : Fin 4) (V : Blk F) {Q : α → sProp 𝕄}
    {hl : (rsW l).view.LoadsAt (slotR h l).toLoadRect} {k : (S1x512x256.Idx → Elt F .f32) → Prog (TpuEff nD τ sig (Elt F) Λ₀ .tc) α} :
    blk c (rsP h l) V ⊢ iprop((blk c (rsP h l) V -∗ wpc c (k (lift1 V)) Q) -∗ wpc c (.op (.load (rsW l) (slotR h l).toLoadRect hl) k) Q) := by
  refine (blk_open c (rsP h l) V).trans ?_
  iintro ⟨%f, %hf, Hb⟩ Hk
  ihave Hw := (show ((rsP h l).view.loc (c : Thread nD τ) ↦[(rsP h l).view.set]{fullShare} f)
      ⊢ iprop((((rsP h l).view.loc (c : Thread nD τ) ↦[(rsP h l).view.set]{fullShare} f) -∗ wpc c (k (lift1 V)) Q) -∗ wpc c (.op (.load (rsW l) (slotR h l).toLoadRect hl) k) Q) by
    rw [← slot_read_lift h l f V hf]
    exact wp_load_rect 𝒱₀ (c : Thread nD τ) none Set.univ (m := rsW l) (r := slotR h l) (slot_set h l).subset) $$ Hb
  iapply Hw
  iintro Hb
  iapply Hk
  iapply (blk_close c (rsP h l) V f hf)
  iexact Hb

/-- Storing a block in a landing slot that is held. -/
theorem slot_store (h : Fin 3) (l : Fin 4) (V V' : Blk F) {w : S1x512x256.Idx → Elt F .f32} (hw : w = lift1 V') {Q : α → sProp 𝕄}
    {hx : ((rsW l).access (slotR h l)).Stores Finset.univ} {hm : (Finset.univ : Finset (slotR h l).shape.Idx) = Finset.univ ∨ _}
    {k : PUnit → Prog (TpuEff nD τ sig (Elt F) Λ₀ .tc) α} :
    blk c (rsP h l) V ⊢ iprop((blk c (rsP h l) V' -∗ wpc c (k ⟨⟩) Q) -∗ wpc c (.op (.store (rsW l) (slotR h l) w Finset.univ hx hm) k) Q) := by
  subst hw
  refine (blk_open c (rsP h l) V).trans ?_
  iintro ⟨%f, %hf, Hb⟩ Hk
  ihave Hw := (show ((rsP h l).view.loc (c : Thread nD τ) ↦[(rsP h l).view.set]{fullShare} f)
      ⊢ iprop((((rsP h l).view.loc (c : Thread nD τ) ↦[(rsP h l).view.set]{fullShare} ((rsW l).access (slotR h l)).write (Elt F) f (lift1 V') Finset.univ)
        -∗ wpc c (k ⟨⟩) Q) -∗ wpc c (.op (.store (rsW l) (slotR h l) (lift1 V') Finset.univ hx hm) k) Q) from
    wp_store 𝒱₀ (c : Thread nD τ) none Set.univ (m := rsW l) (r := slotR h l) (w := lift1 V') (Mk := Finset.univ) (hx := hx) (hm := hm)
      (k := k) (Q := Q) (slot_set h l).subset) $$ Hb
  iapply Hw
  iintro Hb
  iapply Hk
  iapply (blk_close c (rsP h l) V' _ (slot_write h l f V'))
  iexact Hb

/-- Loading a block of a whole staged buffer. -/
theorem whole_load (m : Memref sig .tc .vmem S2048x1024 .f32) (q l : Fin 4) (V : Blk F) {Q : α → sProp 𝕄}
    {hl : m.view.LoadsAt (blkR q l).toLoadRect} {k : (S512x256.Idx → Elt F .f32) → Prog (TpuEff nD τ sig (Elt F) Λ₀ .tc) α} :
    blk c (m.slice (blkR q l) (fun _ => rfl)) V
      ⊢ iprop((blk c (m.slice (blkR q l) (fun _ => rfl)) V -∗ wpc c (k V) Q) -∗ wpc c (.op (.load m (blkR q l).toLoadRect hl) k) Q) := by
  refine (blk_open c _ V).trans ?_
  iintro ⟨%f, %hf, Hb⟩ Hk
  ihave Hw := (show ((m.slice (blkR q l) (fun _ => rfl)).view.loc (c : Thread nD τ) ↦[(m.slice (blkR q l) (fun _ => rfl)).view.set]{fullShare} f)
      ⊢ iprop((((m.slice (blkR q l) (fun _ => rfl)).view.loc (c : Thread nD τ) ↦[(m.slice (blkR q l) (fun _ => rfl)).view.set]{fullShare} f)
        -∗ wpc c (k V) Q) -∗ wpc c (.op (.load m (blkR q l).toLoadRect hl) k) Q) by
    subst hf
    exact wp_load_rect 𝒱₀ (c : Thread nD τ) none Set.univ (m := m) (r := blkR q l) (Finset.Subset.refl _)) $$ Hb
  iapply Hw
  iintro Hb
  iapply Hk
  iapply (blk_close c _ V f hf)
  iexact Hb

theorem whole_write (m : Memref sig .tc .vmem S2048x1024 .f32) (q l : Fin 4) (f : (m.access (blkR q l)).ty.Contents (Elt F)) (V : Blk F) :
    (m.slice (blkR q l) (fun _ => rfl)).view.read (Elt F) ((m.access (blkR q l)).write (Elt F) f V Finset.univ) = V := by
  show (m.access (blkR q l)).read (Elt F) ((m.access (blkR q l)).write (Elt F) f V Finset.univ) = V
  exact View.read_write_univ f V

theorem xRest_open (c : Dev nD) (l : Fin 4) (h : Fin 3) :
    xRest X c l ⊢ iprop(blk c (xP (chk l (h.val + 1) c) l) (xblk X c (chk l (h.val + 1) c) l)
      ∗ (blk c (xP (chk l (h.val + 1) c) l) (xblk X c (chk l (h.val + 1) c) l) -∗ xRest X c l)) := by
  unfold xRest
  rw [bigSep_univ_at _ h]
  iintro ⟨Hb, Hr⟩
  isplitl [Hb]; · iexact Hb
  iintro Hb
  isplitl [Hb]; · iexact Hb
  iexact Hr

/-- Storing a block of a whole staged buffer. -/
theorem whole_store (m : Memref sig .tc .vmem S2048x1024 .f32) (q l : Fin 4) (V V' : Blk F) {Q : α → sProp 𝕄}
    {hx : (m.access (blkR q l)).Stores Finset.univ} {hm : (Finset.univ : Finset (blkR q l).shape.Idx) = Finset.univ ∨ _}
    {k : PUnit → Prog (TpuEff nD τ sig (Elt F) Λ₀ .tc) α} :
    blk c (m.slice (blkR q l) (fun _ => rfl)) V
      ⊢ iprop((blk c (m.slice (blkR q l) (fun _ => rfl)) V' -∗ wpc c (k ⟨⟩) Q) -∗ wpc c (.op (.store m (blkR q l) V' Finset.univ hx hm) k) Q) := by
  refine (blk_open c _ V).trans ?_
  iintro ⟨%f, %hf, Hb⟩ Hk
  ihave Hw := (show ((m.slice (blkR q l) (fun _ => rfl)).view.loc (c : Thread nD τ) ↦[(m.slice (blkR q l) (fun _ => rfl)).view.set]{fullShare} f)
      ⊢ iprop((((m.slice (blkR q l) (fun _ => rfl)).view.loc (c : Thread nD τ) ↦[(m.slice (blkR q l) (fun _ => rfl)).view.set]{fullShare}
          (m.access (blkR q l)).write (Elt F) f V' Finset.univ)
        -∗ wpc c (k ⟨⟩) Q) -∗ wpc c (.op (.store m (blkR q l) V' Finset.univ hx hm) k) Q) from
    wp_store 𝒱₀ (c : Thread nD τ) none Set.univ (m := m) (r := blkR q l) (w := V') (Mk := Finset.univ) (hx := hx) (hm := hm)
      (k := k) (Q := Q) (Finset.Subset.refl _)) $$ Hb
  iapply Hw
  iintro Hb
  iapply Hk
  iapply (blk_close c (m.slice (blkR q l) (fun _ => rfl)) V' ((m.access (blkR q l)).write (Elt F) f V' Finset.univ) (whole_write m q l f V'))
  iexact Hb

/-- Loading the landing slot of hop `h` once its block has come in. -/
theorem st_load_slot (h : Fin 3) (l : Fin 4) {a b d : ℕ} {M : sProp 𝕄} {Q : α → sProp 𝕄} (hp : p l = ⟨a, b, d, iprop(rcvB X c l h.val ∗ M)⟩)
    {hl : (rsW l).view.LoadsAt (slotR h l).toLoadRect} {k : (S1x512x256.Idx → Elt F .f32) → Prog (TpuEff nD τ sig (Elt F) Λ₀ .tc) α}
    (H : St X K c T p ⊢ wpc c (k (lift1 (VS X h.val l (bwd l c)))) Q) :
    St X K c T p ⊢ wpc c (.op (.load (rsW l) (slotR h l).toLoadRect hl) k) Q := by
  rw [rcvB_slot] at hp
  refine st_mem X K c l hp (M' := iprop(blk c (rsP h l) (VS X h.val l (bwd l c)) ∗ M))
    (R' := wpc c (k (lift1 (VS X h.val l (bwd l c)))) Q) ?_ (by rw [upd_same hp]; exact H)
  iintro ⟨Hb, HM⟩ Hk
  ihave Hw := (slot_load c h l (VS X h.val l (bwd l c)) (hl := hl) (k := k) (Q := Q)) $$ Hb
  iapply Hw
  iintro Hb
  iapply Hk
  isplitl [Hb]; · iexact Hb
  iexact HM

/-- Storing in the landing slot of hop 0 or 1 what the next hop sends from there. -/
theorem st_store_slot (h : Fin 3) (l : Fin 4) (h2 : h.val < 2) {a b d : ℕ} {M : sProp 𝕄} {Q : α → sProp 𝕄}
    (hp : p l = ⟨a, b, d, iprop(rcvB X c l h.val ∗ M)⟩) {w : S1x512x256.Idx → Elt F .f32} (hw : w = lift1 (VS X (h.val + 1) l c))
    {hx : ((rsW l).access (slotR h l)).Stores Finset.univ} {hm : (Finset.univ : Finset (slotR h l).shape.Idx) = Finset.univ ∨ _}
    {k : PUnit → Prog (TpuEff nD τ sig (Elt F) Λ₀ .tc) α}
    (H : St X K c T (upd p l ⟨a, b, d, iprop(srcB X c l (h.val + 1) ∗ M)⟩) ⊢ wpc c (k ⟨⟩) Q) :
    St X K c T p ⊢ wpc c (.op (.store (rsW l) (slotR h l) w Finset.univ hx hm) k) Q := by
  rw [rcvB_slot] at hp
  rw [srcB_slot X c l h h2] at H
  refine st_mem X K c l hp (M' := iprop(blk c (rsP h l) (VS X (h.val + 1) l c) ∗ M)) ?_ H
  iintro ⟨Hb, HM⟩ Hk
  ihave Hw := (slot_store c h l (VS X h.val l (bwd l c)) (VS X (h.val + 1) l c) hw (hx := hx) (hm := hm) (k := k) (Q := Q)) $$ Hb
  iapply Hw
  iintro Hb
  iapply Hk
  isplitl [Hb]; · iexact Hb
  iexact HM

/-- Loading the device's own block of the chunk that hop `h` brings. -/
theorem st_load_x (h : Fin 3) (l : Fin 4) {off : Fin 2 → ℕ} {inb : ∀ a, off a + S512x256.size a ≤ S2048x1024.size a}
    (ho : off = ![512 * (chk l (h.val + 1) c).val, 256 * l.val]) {Q : α → sProp 𝕄}
    {hl : xM.view.LoadsAt (Rect.unit (s := S2048x1024) off S512x256.size inb).toLoadRect}
    {k : (S512x256.Idx → Elt F .f32) → Prog (TpuEff nD τ sig (Elt F) Λ₀ .tc) α}
    (H : St X K c T p ⊢ wpc c (k (xblk X c (chk l (h.val + 1) c) l)) Q) :
    St X K c T p ⊢ wpc c (.op (.load xM (Rect.unit (s := S2048x1024) off S512x256.size inb).toLoadRect hl) k) Q := by
  subst ho
  refine (st_open X K c l (p := p) rfl (p l)).trans ?_
  iintro ⟨Hrec, HB, HO, Hs, Hr, HX, HM, Hback⟩
  ihave HX := (xRest_open X c l h) $$ HX
  icases HX with ⟨Hb, HX⟩
  ihave Hw := (whole_load c xM (chk l (h.val + 1) c) l (xblk X c (chk l (h.val + 1) c) l) (hl := hl) (k := k) (Q := Q)) $$ Hb
  iapply Hw
  iintro Hb
  ihave HX := HX $$ Hb
  iapply (show St X K c T (upd p l (p l)) ⊢ _ by rw [upd_same rfl]; exact H)
  iapply (st_close X K c l (p l).a (p l).b (p l).d (p l).M)
  isplitl [Hrec]; · iexact Hrec
  isplitl [HB]; · iexact HB
  isplitl [HO]; · iexact HO
  isplitl [Hs]; · iexact Hs
  isplitl [Hr]; · iexact Hr
  isplitl [HX]; · iexact HX
  isplitl [HM]; · iexact HM
  iexact Hback

/-- Loading the device's place in the result, which holds anything. -/
theorem st_load_out (l : Fin 4) {a b d : ℕ} {M : sProp 𝕄} (hp : p l = ⟨a, b, d, iprop(M ∗ outB (F := F) c l)⟩)
    {off : Fin 2 → ℕ} {inb : ∀ a, off a + S512x256.size a ≤ S2048x1024.size a} (ho : off = ![512 * (chk l 3 c).val, 256 * l.val]) {Q : α → sProp 𝕄}
    {hl : oM.view.LoadsAt (Rect.unit (s := S2048x1024) off S512x256.size inb).toLoadRect}
    {k : (S512x256.Idx → Elt F .f32) → Prog (TpuEff nD τ sig (Elt F) Λ₀ .tc) α}
    (H : ∀ v, St X K c T p ⊢ wpc c (k v) Q) :
    St X K c T p ⊢ wpc c (.op (.load oM (Rect.unit (s := S2048x1024) off S512x256.size inb).toLoadRect hl) k) Q := by
  subst ho
  refine (st_open X K c l hp ⟨a, b, d, iprop(M ∗ outB (F := F) c l)⟩).trans ?_
  iintro ⟨Hrec, HB, HO, Hs, Hr, HX, ⟨HM, Hout⟩, Hback⟩
  ihave Hout := (show outB (F := F) c l ⊢ (iprop(∃ V : Blk F, blk c (oP (chk l 3 c) l) V) : sProp 𝕄) from Entails.refl _) $$ Hout
  icases Hout with ⟨%V, Hb⟩
  ihave Hw := (whole_load c oM (chk l 3 c) l V (hl := hl) (k := k) (Q := Q)) $$ Hb
  iapply Hw
  iintro Hb
  iapply (show St X K c T (upd p l ⟨a, b, d, iprop(M ∗ outB (F := F) c l)⟩) ⊢ _ by rw [upd_same hp]; exact H V)
  iapply (st_close X K c l a b d iprop(M ∗ outB (F := F) c l))
  isplitl [Hrec]; · iexact Hrec
  isplitl [HB]; · iexact HB
  isplitl [HO]; · iexact HO
  isplitl [Hs]; · iexact Hs
  isplitl [Hr]; · iexact Hr
  isplitl [HX]; · iexact HX
  isplitl [HM Hb]
  · isplitl [HM]; · iexact HM
    iapply (show (blk c (oP (chk l 3 c) l) V : sProp 𝕄) ⊢ outB (F := F) c l from by unfold outB blkAny; iintro H; iexists V; iexact H)
    iexact Hb
  iexact Hback

/-- Storing the finished chunk in the result. -/
theorem st_store_out (l : Fin 4) {a b d : ℕ} {M : sProp 𝕄} (hp : p l = ⟨a, b, d, iprop(M ∗ outB (F := F) c l)⟩)
    {off : Fin 2 → ℕ} {inb : ∀ a, off a + S512x256.size a ≤ S2048x1024.size a} (ho : off = ![512 * (chk l 3 c).val, 256 * l.val]) {Q : α → sProp 𝕄}
    {w : S512x256.Idx → Elt F .f32} (hw : w = VS X 3 l c)
    {hx : (oM.access (Rect.unit (s := S2048x1024) off S512x256.size inb)).Stores Finset.univ}
    {hm : (Finset.univ : Finset (Rect.unit (s := S2048x1024) off S512x256.size inb).shape.Idx) = Finset.univ ∨ _}
    {k : PUnit → Prog (TpuEff nD τ sig (Elt F) Λ₀ .tc) α}
    (H : St X K c T (upd p l ⟨a, b, d, iprop(srcB X c l 3 ∗ M)⟩) ⊢ wpc c (k ⟨⟩) Q) :
    St X K c T p ⊢ wpc c (.op (.store oM (Rect.unit (s := S2048x1024) off S512x256.size inb) w Finset.univ hx hm) k) Q := by
  subst ho hw
  refine st_mem X K c l hp (M' := iprop(srcB X c l 3 ∗ M)) ?_ H
  iintro ⟨HM, Hout⟩ Hk
  ihave Hout := (show outB (F := F) c l ⊢ (iprop(∃ V : Blk F, blk c (oP (chk l 3 c) l) V) : sProp 𝕄) from Entails.refl _) $$ Hout
  icases Hout with ⟨%V, Hb⟩
  ihave Hw := (whole_store c oM (chk l 3 c) l V (VS X 3 l c) (hx := hx) (hm := hm) (k := k) (Q := Q)) $$ Hb
  iapply Hw
  iintro Hb
  iapply Hk
  isplitl [Hb]
  · iapply (show (blk c (oP (chk l 3 c) l) (VS X 3 l c) : sProp 𝕄) ⊢ srcB X c l 3 from Entails.refl _)
    iexact Hb
  iexact HM

end Cert.RingReduce

end
-- ==== Proof.Phases.lean ====
/-
# The phases of a lane, and the program's addresses

The conditions a lane of a device goes through, and the program's device numbers and offsets in the terms of the protocol.
-/
module

public import proofs.«01_k».proof.Proof.Mem

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## The phases -/

/-- About to start the transfer of hop `h`, of the first three. -/
abbrev pSrc (c : Dev nD) (l : Fin 4) (h : ℕ) : LP F := ⟨h, h, 0, iprop(srcB X c l h ∗ outB (F := F) c l)⟩
/-- Waiting for the block of hop `h`, of the first three. -/
abbrev pFly (c : Dev nD) (l : Fin 4) (h : ℕ) : LP F := ⟨h + 1, h, 0, outB (F := F) c l⟩
/-- Holding the block that hop `h`, of the first three, brought. -/
abbrev pRcv (c : Dev nD) (l : Fin 4) (h : ℕ) : LP F := ⟨h + 1, h + 1, 0, iprop(rcvB X c l h ∗ outB (F := F) c l)⟩
/-- About to start the transfer of hop `h`, of the last three. -/
abbrev gSrc (c : Dev nD) (l : Fin 4) (h : ℕ) : LP F := ⟨h, h, 0, iprop(srcB X c l h ∗ rcvB X c l 2)⟩
/-- Waiting for the block of hop `h`, of the last three. -/
abbrev gFly (c : Dev nD) (l : Fin 4) (h : ℕ) : LP F := ⟨h + 1, h, 0, rcvB X c l 2⟩
/-- What a lane holds when `h` of its own transfers have been waited for, all blocks having come in. -/
def endM (c : Dev nD) (l : Fin 4) : ℕ → sProp 𝕄
  | 0 => iprop(srcB X c l 6 ∗ rcvB X c l 2)
  | h + 1 => iprop(srcB X c l h ∗ endM c l h)
abbrev eSrc (c : Dev nD) (l : Fin 4) (h : ℕ) : LP F := ⟨6, 6, h, endM X c l h⟩

/-- The state in which the first `n` transfers are started and the lanes are in the conditions given. -/
abbrev Sts (K : Dev nD × (Unit ⊕ Slot) → ℕ) (c : Dev nD) (n : ℕ) (p0 p1 p2 p3 : LP F) : sProp 𝕄 := St X K c (order.drop n) ![p0, p1, p2, p3]

/-- The end of a part of the program. -/
theorem st_ret (K : Dev nD × (Unit ⊕ Slot) → ℕ) (c : Dev nD) {T T' : List (Fin 6 × Fin 4)} {p p' : Fin 4 → LP F} {α : Type} {v : α} {Q : α → sProp 𝕄}
    (hT : T = T') (h0 : p 0 = p' 0) (h1 : p 1 = p' 1) (h2 : p 2 = p' 2) (h3 : p 3 = p' 3)
    (H : St X K c T' p' ⊢ Q v) : St X K c T p ⊢ wpc c (.ret v) Q := by
  have e : p = p' := by
    funext l
    fin_cases l
    · exact h0
    · exact h1
    · exact h2
    · exact h3
  subst hT e
  unfold wpc
  rw [wp_ret]
  iintro HS
  imodintro
  iapply H
  iexact HS

/-! ## The program's devices and offsets -/

theorem fwd_of {l : Fin 4} {c n : Dev nD} (h : n.val = (fwd l c).val) : n = fwd l c := Fin.ext h

theorem slice_at (m : Memref sig .tc .vmem S2048x1024 .f32) {off : Fin 2 → ℕ} {inb : ∀ a, off a + S512x256.size a ≤ S2048x1024.size a} {q l : Fin 4}
    (ho : off = ![512 * q.val, 256 * l.val]) :
    m.slice (Rect.unit (s := S2048x1024) off S512x256.size inb) (fun _ => rfl) = m.slice (blkR q l) (fun _ => rfl) := by
  subst ho; rfl

theorem credit_slice (m : Memref sig .tc .vmem S2048x1024 .f32) {off : Fin 2 → ℕ} {inb : ∀ a, off a + S512x256.size a ≤ S2048x1024.size a} :
    (m.slice (Rect.unit (s := S2048x1024) off S512x256.size inb) (fun _ => rfl)).view.dmaCredit = N := rfl

variable (c : Dev nD)

theorem dev3 : (⟨k0_dev3 c, Facts₀.k0_dev3_lt c⟩ : Dev nD) = fwd 0 c := by revert c; decide +kernel
theorem dev4 : (⟨k0_dev4 c, Facts₀.k0_dev4_lt c⟩ : Dev nD) = fwd 2 c := by revert c; decide +kernel
theorem dev5 : (⟨k0_dev5 c, Facts₀.k0_dev5_lt c⟩ : Dev nD) = fwd 1 c := by revert c; decide +kernel
theorem dev6 : (⟨k0_dev6 c, Facts₀.k0_dev6_lt c⟩ : Dev nD) = fwd 3 c := by revert c; decide +kernel
theorem dev7 : (⟨k0_dev7 c, Facts₀.k0_dev7_lt c⟩ : Dev nD) = fwd 0 c := by revert c; decide +kernel
theorem dev8 : (⟨k0_dev8 c, Facts₀.k0_dev8_lt c⟩ : Dev nD) = fwd 2 c := by revert c; decide +kernel
theorem dev9 : (⟨k0_dev9 c, Facts₀.k0_dev9_lt c⟩ : Dev nD) = fwd 1 c := by revert c; decide +kernel
theorem dev10 : (⟨k0_dev10 c, Facts₀.k0_dev10_lt c⟩ : Dev nD) = fwd 3 c := by revert c; decide +kernel
theorem dev11 : (⟨k0_dev11 c, Facts₀.k0_dev11_lt c⟩ : Dev nD) = fwd 0 c := by revert c; decide +kernel
theorem dev12 : (⟨k0_dev12 c, Facts₀.k0_dev12_lt c⟩ : Dev nD) = fwd 2 c := by revert c; decide +kernel
theorem dev13 : (⟨k0_dev13 c, Facts₀.k0_dev13_lt c⟩ : Dev nD) = fwd 1 c := by revert c; decide +kernel
theorem dev14 : (⟨k0_dev14 c, Facts₀.k0_dev14_lt c⟩ : Dev nD) = fwd 3 c := by revert c; decide +kernel
theorem dev15 : (⟨k0_dev15 c, Facts₀.k0_dev15_lt c⟩ : Dev nD) = fwd 0 c := by revert c; decide +kernel
theorem dev16 : (⟨k0_dev16 c, Facts₀.k0_dev16_lt c⟩ : Dev nD) = fwd 2 c := by revert c; decide +kernel
theorem dev17 : (⟨k0_dev17 c, Facts₀.k0_dev17_lt c⟩ : Dev nD) = fwd 1 c := by revert c; decide +kernel
theorem dev18 : (⟨k0_dev18 c, Facts₀.k0_dev18_lt c⟩ : Dev nD) = fwd 3 c := by revert c; decide +kernel
theorem dev19 : (⟨k0_dev19 c, Facts₀.k0_dev19_lt c⟩ : Dev nD) = fwd 0 c := by revert c; decide +kernel
theorem dev20 : (⟨k0_dev20 c, Facts₀.k0_dev20_lt c⟩ : Dev nD) = fwd 2 c := by revert c; decide +kernel
theorem dev21 : (⟨k0_dev21 c, Facts₀.k0_dev21_lt c⟩ : Dev nD) = fwd 1 c := by revert c; decide +kernel
theorem dev22 : (⟨k0_dev22 c, Facts₀.k0_dev22_lt c⟩ : Dev nD) = fwd 3 c := by revert c; decide +kernel
theorem dev23 : (⟨k0_dev23 c, Facts₀.k0_dev23_lt c⟩ : Dev nD) = fwd 0 c := by revert c; decide +kernel
theorem dev24 : (⟨k0_dev24 c, Facts₀.k0_dev24_lt c⟩ : Dev nD) = fwd 2 c := by revert c; decide +kernel
theorem dev25 : (⟨k0_dev25 c, Facts₀.k0_dev25_lt c⟩ : Dev nD) = fwd 1 c := by revert c; decide +kernel
theorem dev26 : (⟨k0_dev26 c, Facts₀.k0_dev26_lt c⟩ : Dev nD) = fwd 3 c := by revert c; decide +kernel
theorem off1 : k0_off1 c = ![512 * (chk 0 0 c).val, 256 * (0 : Fin 4).val] := by revert c; decide +kernel
theorem off2 : k0_off2 c = ![512 * (chk 2 0 c).val, 256 * (2 : Fin 4).val] := by revert c; decide +kernel
theorem off3 : k0_off3 c = ![512 * (chk 1 0 c).val, 256 * (1 : Fin 4).val] := by revert c; decide +kernel
theorem off4 : k0_off4 c = ![512 * (chk 3 0 c).val, 256 * (3 : Fin 4).val] := by revert c; decide +kernel
theorem off5_0 : k0_off5 c 0#32 = ![512 * (chk 0 1 c).val, 256 * (0 : Fin 4).val] := by revert c; decide +kernel
theorem off5_1 : k0_off5 c 1#32 = ![512 * (chk 0 2 c).val, 256 * (0 : Fin 4).val] := by revert c; decide +kernel
theorem off6_0 : k0_off6 c 0#32 = ![512 * (chk 2 1 c).val, 256 * (2 : Fin 4).val] := by revert c; decide +kernel
theorem off6_1 : k0_off6 c 1#32 = ![512 * (chk 2 2 c).val, 256 * (2 : Fin 4).val] := by revert c; decide +kernel
theorem off7_0 : k0_off7 c 0#32 = ![512 * (chk 1 1 c).val, 256 * (1 : Fin 4).val] := by revert c; decide +kernel
theorem off7_1 : k0_off7 c 1#32 = ![512 * (chk 1 2 c).val, 256 * (1 : Fin 4).val] := by revert c; decide +kernel
theorem off8_0 : k0_off8 c 0#32 = ![512 * (chk 3 1 c).val, 256 * (3 : Fin 4).val] := by revert c; decide +kernel
theorem off8_1 : k0_off8 c 1#32 = ![512 * (chk 3 2 c).val, 256 * (3 : Fin 4).val] := by revert c; decide +kernel
theorem off9 : k0_off9 c = ![512 * (chk 0 3 c).val, 256 * (0 : Fin 4).val] := by revert c; decide +kernel
theorem off10 : k0_off10 c = ![512 * (chk 0 3 c).val, 256 * (0 : Fin 4).val] := by revert c; decide +kernel
theorem off11 : k0_off11 c = ![512 * (chk 2 3 c).val, 256 * (2 : Fin 4).val] := by revert c; decide +kernel
theorem off12 : k0_off12 c = ![512 * (chk 2 3 c).val, 256 * (2 : Fin 4).val] := by revert c; decide +kernel
theorem off13 : k0_off13 c = ![512 * (chk 1 3 c).val, 256 * (1 : Fin 4).val] := by revert c; decide +kernel
theorem off14 : k0_off14 c = ![512 * (chk 1 3 c).val, 256 * (1 : Fin 4).val] := by revert c; decide +kernel
theorem off15 : k0_off15 c = ![512 * (chk 3 3 c).val, 256 * (3 : Fin 4).val] := by revert c; decide +kernel
theorem off16 : k0_off16 c = ![512 * (chk 3 3 c).val, 256 * (3 : Fin 4).val] := by revert c; decide +kernel
theorem off17_1 : k0_off17 c 1#32 = ![512 * (chk 0 4 c).val, 256 * (0 : Fin 4).val] := by revert c; decide +kernel
theorem off17_2 : k0_off17 c 2#32 = ![512 * (chk 0 5 c).val, 256 * (0 : Fin 4).val] := by revert c; decide +kernel
theorem off18_1 : k0_off18 c 1#32 = ![512 * (chk 2 4 c).val, 256 * (2 : Fin 4).val] := by revert c; decide +kernel
theorem off18_2 : k0_off18 c 2#32 = ![512 * (chk 2 5 c).val, 256 * (2 : Fin 4).val] := by revert c; decide +kernel
theorem off19_1 : k0_off19 c 1#32 = ![512 * (chk 1 4 c).val, 256 * (1 : Fin 4).val] := by revert c; decide +kernel
theorem off19_2 : k0_off19 c 2#32 = ![512 * (chk 1 5 c).val, 256 * (1 : Fin 4).val] := by revert c; decide +kernel
theorem off20_1 : k0_off20 c 1#32 = ![512 * (chk 3 4 c).val, 256 * (3 : Fin 4).val] := by revert c; decide +kernel
theorem off20_2 : k0_off20 c 2#32 = ![512 * (chk 3 5 c).val, 256 * (3 : Fin 4).val] := by revert c; decide +kernel

end Cert.RingReduce

end
-- ==== Proof.Pieces.lean ====
/-
# The buffers cut into blocks

The staged block of `x`, the staged result and the landing buffers, each cut into the blocks the lanes work on, and put
together again; the contents of the result.
-/
module

public import proofs.«01_k».proof.Proof.Phases

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## Small lists -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem two (Φ : Fin 2 → sProp 𝕄) : bigSep Finset.univ Φ = iprop(Φ 0 ∗ Φ 1) :=
  bigSep_univ_eq_bigSepL [0, 1] (by decide) (by decide) Φ
theorem three (Φ : Fin 3 → sProp 𝕄) : bigSep Finset.univ Φ = iprop(Φ 0 ∗ Φ 1 ∗ Φ 2) :=
  bigSep_univ_eq_bigSepL [0, 1, 2] (by decide) (by decide) Φ
theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The four chunks in the order in which a device meets them in a lane, from hop `s` on. -/
def turn (l : Fin 4) (s : Fin 4) (c : Dev nD) : Fin 4 ≃ Fin 4 :=
  Equiv.ofBijective (fun k => chk l (k.val + s.val) c) (Finite.injective_iff_bijective.mp (by revert l s c; decide))
theorem four_turn (l : Fin 4) (s : Fin 4) (c : Dev nD) (Φ : Fin 4 → sProp 𝕄) :
    bigSep Finset.univ Φ = iprop(Φ (chk l (0 + s.val) c) ∗ Φ (chk l (1 + s.val) c) ∗ Φ (chk l (2 + s.val) c) ∗ Φ (chk l (3 + s.val) c)) := by
  rw [bigSep_univ_equiv (turn l s c) Φ, four]; rfl

/-! ## Where an element of the result lies -/

/-- The chunk of rows an element lies in. -/
def rowQ (i : S2048x1024.Idx) : Fin 4 := ⟨(i 0 : ℕ) / 512, by have h : (i 0 : ℕ) < 2048 := (i 0).isLt; omega⟩
/-- The lane of columns it lies in. -/
def colL (i : S2048x1024.Idx) : Fin 4 := ⟨(i 1 : ℕ) / 256, by have h : (i 1 : ℕ) < 1024 := (i 1).isLt; omega⟩
/-- Its place in its block. -/
def inIx (i : S2048x1024.Idx) : S512x256.Idx := fun a => ⟨(i a : ℕ) % S512x256.size a, Nat.mod_lt _ (by revert a; decide)⟩

theorem emb_inIx (i : S2048x1024.Idx) : (blkR (rowQ i) (colL i)).emb (inIx i) = i := by
  funext a
  refine Fin.ext ?_
  rw [Rect.emb_apply]
  fin_cases a
  · show 512 * ((i 0 : ℕ) / 512) + 1 * ((i 0 : ℕ) % 512) = (i 0 : ℕ); omega
  · show 256 * ((i 1 : ℕ) / 256) + 1 * ((i 1 : ℕ) % 256) = (i 1 : ℕ); omega
theorem emb_row (q l : Fin 4) (x : S512x256.Idx) : ((blkR q l).emb x 0 : ℕ) = 512 * q.val + (x 0 : ℕ) := by
  rw [Rect.emb_apply]; show 512 * q.val + 1 * (x 0 : ℕ) = _; omega
theorem emb_col (q l : Fin 4) (x : S512x256.Idx) : ((blkR q l).emb x 1 : ℕ) = 256 * l.val + (x 1 : ℕ) := by
  rw [Rect.emb_apply]; show 256 * l.val + 1 * (x 1 : ℕ) = _; omega
theorem rowQ_emb (q l : Fin 4) (x : S512x256.Idx) : rowQ ((blkR q l).emb x) = q := by
  have h : (x 0 : ℕ) < 512 := (x 0).isLt
  refine Fin.ext ?_
  show ((blkR q l).emb x 0 : ℕ) / 512 = q.val
  rw [emb_row]; omega
theorem colL_emb (q l : Fin 4) (x : S512x256.Idx) : colL ((blkR q l).emb x) = l := by
  have h : (x 1 : ℕ) < 256 := (x 1).isLt
  refine Fin.ext ?_
  show ((blkR q l).emb x 1 : ℕ) / 256 = l.val
  rw [emb_col]; omega
theorem inIx_emb (q l : Fin 4) (x : S512x256.Idx) : inIx ((blkR q l).emb x) = x := by
  funext a
  refine Fin.ext ?_
  fin_cases a
  · have h : (x 0 : ℕ) < 512 := (x 0).isLt
    show ((blkR q l).emb x 0 : ℕ) % 512 = (x 0 : ℕ)
    rw [emb_row]; omega
  · have h : (x 1 : ℕ) < 256 := (x 1).isLt
    show ((blkR q l).emb x 1 : ℕ) % 256 = (x 1 : ℕ)
    rw [emb_col]; omega

/-- The elements of the block of lane `p.1` and chunk `p.2`. -/
def blkS (p : Fin 4 × Fin 4) : Finset S2048x1024.Idx := (blkR p.2 p.1).set

theorem mem_blkS (p : Fin 4 × Fin 4) (i : S2048x1024.Idx) : i ∈ blkS p ↔ colL i = p.1 ∧ rowQ i = p.2 := by
  unfold blkS
  rw [← Rect.map_emb_univ, Finset.mem_map]
  constructor
  · rintro ⟨x, -, rfl⟩; exact ⟨colL_emb _ _ _, rowQ_emb _ _ _⟩
  · rintro ⟨h1, h2⟩; exact ⟨inIx i, Finset.mem_univ _, by rw [← h1, ← h2]; exact emb_inIx i⟩
theorem blkS_disjoint : ∀ p p', p ≠ p' → Disjoint (blkS p) (blkS p') := fun p p' h =>
  Finset.disjoint_left.mpr fun i hi hi' => h (Prod.ext
    (((mem_blkS p i).mp hi).1.symm.trans ((mem_blkS p' i).mp hi').1) (((mem_blkS p i).mp hi).2.symm.trans ((mem_blkS p' i).mp hi').2))
theorem blkS_cover : Finset.univ.biUnion blkS = Finset.univ :=
  Finset.eq_univ_iff_forall.mpr fun i => Finset.mem_biUnion.mpr ⟨(colL i, rowQ i), Finset.mem_univ _, (mem_blkS _ _).mpr ⟨rfl, rfl⟩⟩

/-! ## The staged `x` -/

theorem x_set (q l : Fin 4) : (xP q l).view.set = blkS (l, q) := View.set_slice_whole cc0_stg0_0 (blkR q l)
theorem o_set (q l : Fin 4) : (oP q l).view.set = blkS (l, q) := View.set_slice_whole cc0_stg1_0 (blkR q l)

theorem x_split (c : Dev nD) :
    (((c : Thread nD τ).loc cc0_stg0_0) ↦{fullShare} X c : sProp 𝕄)
      ⊢ bigSep Finset.univ fun l : Fin 4 => bigSep Finset.univ fun q : Fin 4 => blk c (xP q l) (xblk X c q l) := by
  rw [Ring.pointsTo_blocks (ℓ := (c : Thread nD τ).loc cc0_stg0_0) blkS blkS_disjoint blkS_cover (X c), bigSep_univ_prod]
  refine bigSep_mono fun l _ => bigSep_mono fun q _ => ?_
  refine Entails.trans (Entails.of_eq ?_) (owns_intro (c : Thread nD τ) (xP q l) fullShare (X c))
  rw [x_set]

theorem blk_agree (c : Dev nD) (m : Memref sig .tc .vmem S512x256 .f32) (G : m.view.ty.Contents (Elt F)) :
    blk c m (m.view.read (Elt F) G) ⊢ (m.view.loc (c : Thread nD τ) ↦[m.view.set]{fullShare} G : sProp 𝕄) := by
  unfold blk owns
  iintro ⟨%f, %hf, H⟩
  have e : ∀ i ∈ m.view.set, f i = G i := fun i hi => by
    obtain ⟨x, -, rfl⟩ := Finset.mem_map.mp hi
    have h := congrFun hf x
    rw [View.read_apply, View.read_apply] at h
    exact (cast_inj _).mp h
  iapply (Entails.of_eq (pointsTo_congr (ℓ := m.view.loc (c : Thread nD τ)) (q := fullShare) e))
  iexact H

theorem x_join (c : Dev nD) :
    (bigSep Finset.univ fun l : Fin 4 => bigSep Finset.univ fun q : Fin 4 => blk c (xP q l) (xblk X c q l))
      ⊢ (((c : Thread nD τ).loc cc0_stg0_0) ↦{fullShare} X c : sProp 𝕄) := by
  rw [Ring.pointsTo_blocks (ℓ := (c : Thread nD τ).loc cc0_stg0_0) blkS blkS_disjoint blkS_cover (X c), bigSep_univ_prod]
  refine bigSep_mono fun l _ => bigSep_mono fun q _ => ?_
  refine (blk_agree c (xP q l) (X c)).trans (Entails.of_eq ?_)
  rw [x_set]

theorem lane_x (c : Dev nD) (l : Fin 4) :
    (bigSep Finset.univ fun q : Fin 4 => blk c (xP q l) (xblk X c q l)) = iprop(srcB X c l 0 ∗ xRest X c l) := by
  rw [four_turn l 0 c]; unfold xRest; rw [three]; rfl

/-! ## The staged result -/

theorem out_split (c : Dev nD) (f : Buf (Elt F) ((c : Thread nD τ).loc cc0_stg1_0)) :
    (((c : Thread nD τ).loc cc0_stg1_0) ↦{fullShare} f : sProp 𝕄)
      ⊢ bigSep Finset.univ fun l : Fin 4 => bigSep Finset.univ fun q : Fin 4 => blkAny c (oP q l) := by
  rw [Ring.pointsTo_blocks (ℓ := (c : Thread nD τ).loc cc0_stg1_0) blkS blkS_disjoint blkS_cover f, bigSep_univ_prod]
  refine bigSep_mono fun l _ => bigSep_mono fun q _ => ?_
  refine ((Entails.of_eq ?_).trans (owns_intro (c : Thread nD τ) (oP q l) fullShare f)).trans ?_
  · rw [o_set]
  · unfold blkAny; iintro H; iexists _; iexact H

/-- The finished block of chunk `q` and lane `l`: what the device that holds the full sum of it sends on. -/
def FIN (q l : Fin 4) : Blk F := VS X 3 l (bwd l q)
/-- The result: the same on every device. -/
def OUT : (cc0_stg1_0 : Ref sig .tc).ty.Contents (Elt F) := fun i => FIN X (rowQ i) (colL i) (inIx i)

theorem read_OUT (q l : Fin 4) : (oP q l).view.read (Elt F) (OUT X) = FIN X q l := by
  funext x
  show FIN X (rowQ ((blkR q l).emb x)) (colL ((blkR q l).emb x)) (inIx ((blkR q l).emb x)) = _
  rw [rowQ_emb, colL_emb, inIx_emb]

theorem out_join (c : Dev nD) :
    (bigSep Finset.univ fun l : Fin 4 => bigSep Finset.univ fun q : Fin 4 => blk c (oP q l) (FIN X q l))
      ⊢ (((c : Thread nD τ).loc cc0_stg1_0) ↦{fullShare} OUT X : sProp 𝕄) := by
  rw [Ring.pointsTo_blocks (ℓ := (c : Thread nD τ).loc cc0_stg1_0) blkS blkS_disjoint blkS_cover (OUT X), bigSep_univ_prod]
  refine bigSep_mono fun l _ => bigSep_mono fun q _ => ?_
  rw [← read_OUT X q l]
  refine (blk_agree c (oP q l) (OUT X)).trans (Entails.of_eq ?_)
  rw [o_set]

/-- From hop 3 on a device sends finished blocks. -/
theorem VS_fin (k : ℕ) (l : Fin 4) (c : Dev nD) : VS X (k + 3) l c = FIN X (chk l (k + 3) c) l := by
  induction k generalizing c with
  | zero =>
    show VS X 3 l c = VS X 3 l (bwd l (chk l 3 c))
    congr 1; revert l c; decide
  | succ k ih =>
    rw [show VS X (k + 1 + 3) l c = VS X (k + 3) l (bwd l c) from if_neg (by omega), ih (bwd l c), chk_succ]

/-! ## The landing buffers -/

/-- The elements of the landing slot of hop `p.2` in half `p.1`. -/
def slotS (p : Fin 2 × Fin 3) : Finset S3x512x512.Idx := (slotR p.2 ⟨p.1.val, by omega⟩).set

theorem mem_slotS (p : Fin 2 × Fin 3) (i : S3x512x512.Idx) : i ∈ slotS p ↔ (i 2 : ℕ) / 256 = p.1.val ∧ (i 0 : ℕ) = p.2.val := by
  have h1 : (i 1 : ℕ) < 512 := (i 1).isLt
  have hp := p.1.isLt
  unfold slotS
  rw [Rect.mem_set_unit]
  constructor
  · intro h
    have h0 : p.2.val ≤ (i 0 : ℕ) ∧ (i 0 : ℕ) < p.2.val + 1 := h 0
    have h2 : 256 * (p.1.val % 2) ≤ (i 2 : ℕ) ∧ (i 2 : ℕ) < 256 * (p.1.val % 2) + 256 := h 2
    omega
  · rintro ⟨h2, h0⟩ a
    fin_cases a
    · show p.2.val ≤ (i 0 : ℕ) ∧ (i 0 : ℕ) < p.2.val + 1; omega
    · show 0 ≤ (i 1 : ℕ) ∧ (i 1 : ℕ) < 0 + 512; omega
    · show 256 * (p.1.val % 2) ≤ (i 2 : ℕ) ∧ (i 2 : ℕ) < 256 * (p.1.val % 2) + 256; omega
theorem slotS_disjoint : ∀ p p', p ≠ p' → Disjoint (slotS p) (slotS p') := fun p p' h =>
  Finset.disjoint_left.mpr fun i hi hi' => h (Prod.ext
    (Fin.ext (((mem_slotS p i).mp hi).1.symm.trans ((mem_slotS p' i).mp hi').1)) (Fin.ext (((mem_slotS p i).mp hi).2.symm.trans ((mem_slotS p' i).mp hi').2)))
theorem slotS_cover : Finset.univ.biUnion slotS = Finset.univ :=
  Finset.eq_univ_iff_forall.mpr fun i => Finset.mem_biUnion.mpr
    ⟨(⟨(i 2 : ℕ) / 256, by have h : (i 2 : ℕ) < 512 := (i 2).isLt; omega⟩, i 0), Finset.mem_univ _, (mem_slotS _ _).mpr ⟨rfl, rfl⟩⟩

theorem blkAny_eq (c : Dev nD) (m : Memref sig .tc .vmem S512x256 .f32) :
    blkAny (F := F) c m = iprop(∃ f : Buf (Elt F) (m.view.loc (c : Thread nD τ)), (m.view.loc (c : Thread nD τ)) ↦[m.view.set]{fullShare} f) := by
  have h₁ : blkAny (F := F) c m ⊢ iprop(∃ f : Buf (Elt F) (m.view.loc (c : Thread nD τ)), (m.view.loc (c : Thread nD τ)) ↦[m.view.set]{fullShare} f) := by
    unfold blkAny blk owns
    iintro ⟨%V, %f, -, H⟩; iexists f; iexact H
  have h₂ : iprop(∃ f : Buf (Elt F) (m.view.loc (c : Thread nD τ)), (m.view.loc (c : Thread nD τ)) ↦[m.view.set]{fullShare} f) ⊢ blkAny (F := F) c m := by
    unfold blkAny
    iintro ⟨%f, H⟩
    iexists (m.view.read (Elt F) f)
    iapply (owns_intro (c : Thread nD τ) m fullShare f); iexact H
  exact BI.equiv_iff.mp ⟨h₁, h₂⟩

/-- A buffer of two halves of three blocks each is those blocks. -/
theorem halves_split (c : Dev nD) {ℓ : Loc nD τ sig} (J : Fin 2 × Fin 3 → Finset (Idx ℓ)) (m : Fin 2 → Fin 3 → Memref sig .tc .vmem S512x256 .f32)
    (hd : ∀ p p', p ≠ p' → Disjoint (J p) (J p')) (hc : Finset.univ.biUnion J = Finset.univ)
    (hm : ∀ j h, blkAny (F := F) c (m j h) = iprop(∃ f : Buf (Elt F) ℓ, ℓ ↦[J (j, h)]{fullShare} f)) :
    iprop(∃ f : Buf (Elt F) ℓ, ℓ ↦{fullShare} f)
      ⊢ iprop((bigSep Finset.univ fun h : Fin 3 => blkAny (F := F) c (m 0 h)) ∗ bigSep Finset.univ fun h : Fin 3 => blkAny (F := F) c (m 1 h)) := by
  iintro ⟨%f, H⟩
  ihave H := (show (ℓ ↦{fullShare} f : sProp 𝕄)
      ⊢ iprop((bigSep Finset.univ fun h : Fin 3 => blkAny (F := F) c (m 0 h)) ∗ bigSep Finset.univ fun h : Fin 3 => blkAny (F := F) c (m 1 h)) by
    rw [Ring.pointsTo_blocks J hd hc f, bigSep_univ_prod, two]
    have g (j : Fin 2) (h : Fin 3) : (ℓ ↦[J (j, h)]{fullShare} f : sProp 𝕄) ⊢ blkAny (F := F) c (m j h) := by
      rw [hm]; iintro H; iexists f; iexact H
    exact BIClass.sep_mono (bigSep_mono fun h _ => g 0 h) (bigSep_mono fun h _ => g 1 h)) $$ H
  iexact H
theorem halves_join (c : Dev nD) {ℓ : Loc nD τ sig} (J : Fin 2 × Fin 3 → Finset (Idx ℓ)) (m : Fin 2 → Fin 3 → Memref sig .tc .vmem S512x256 .f32)
    (hd : ∀ p p', p ≠ p' → Disjoint (J p) (J p')) (hc : Finset.univ.biUnion J = Finset.univ)
    (hm : ∀ j h, blkAny (F := F) c (m j h) = iprop(∃ f : Buf (Elt F) ℓ, ℓ ↦[J (j, h)]{fullShare} f)) (f₀ : Buf (Elt F) ℓ) :
    iprop((bigSep Finset.univ fun h : Fin 3 => blkAny (F := F) c (m 0 h)) ∗ bigSep Finset.univ fun h : Fin 3 => blkAny (F := F) c (m 1 h))
      ⊢ (iprop(∃ f : Buf (Elt F) ℓ, ℓ ↦{fullShare} f) : sProp 𝕄) := by
  refine Entails.trans (Entails.of_eq ?_) (Ring.pointsTo_blocks_join_exists J hd hc f₀)
  rw [bigSep_univ_prod, two]
  simp only [hm]

theorem half0 (c : Dev nD) (j : Fin 2) (h : Fin 3) : blkAny (F := F) c (rsP h ⟨j.val, by omega⟩)
    = iprop(∃ f : Buf (Elt F) ((c : Thread nD τ).loc cc0_scratch0), ((c : Thread nD τ).loc cc0_scratch0) ↦[slotS (j, h)]{fullShare} f) := by
  rw [blkAny_eq]
  obtain rfl | rfl : j = 0 ∨ j = 1 := by omega
  · refine congrArg (fun S : Finset S3x512x512.Idx => iprop(∃ f : Buf (Elt F) ((c : Thread nD τ).loc cc0_scratch0), ((c : Thread nD τ).loc cc0_scratch0) ↦[S]{fullShare} f)) ?_
    exact (show (rsP h 0).view.set = slotS (0, h) from (View.set_reshape _ _).trans (View.set_slice_whole cc0_scratch0 (slotR h 0)))
  · refine congrArg (fun S : Finset S3x512x512.Idx => iprop(∃ f : Buf (Elt F) ((c : Thread nD τ).loc cc0_scratch0), ((c : Thread nD τ).loc cc0_scratch0) ↦[S]{fullShare} f)) ?_
    exact (show (rsP h 1).view.set = slotS (1, h) from (View.set_reshape _ _).trans (View.set_slice_whole cc0_scratch0 (slotR h 1)))
theorem half1 (c : Dev nD) (j : Fin 2) (h : Fin 3) : blkAny (F := F) c (rsP h ⟨2 + j.val, by omega⟩)
    = iprop(∃ f : Buf (Elt F) ((c : Thread nD τ).loc cc0_scratch1), ((c : Thread nD τ).loc cc0_scratch1) ↦[slotS (j, h)]{fullShare} f) := by
  rw [blkAny_eq]
  obtain rfl | rfl : j = 0 ∨ j = 1 := by omega
  · refine congrArg (fun S : Finset S3x512x512.Idx => iprop(∃ f : Buf (Elt F) ((c : Thread nD τ).loc cc0_scratch1), ((c : Thread nD τ).loc cc0_scratch1) ↦[S]{fullShare} f)) ?_
    exact (show (rsP h 2).view.set = slotS (0, h) from (View.set_reshape _ _).trans (View.set_slice_whole cc0_scratch1 (slotR h 2)))
  · refine congrArg (fun S : Finset S3x512x512.Idx => iprop(∃ f : Buf (Elt F) ((c : Thread nD τ).loc cc0_scratch1), ((c : Thread nD τ).loc cc0_scratch1) ↦[S]{fullShare} f)) ?_
    exact (show (rsP h 3).view.set = slotS (1, h) from (View.set_reshape _ _).trans (View.set_slice_whole cc0_scratch1 (slotR h 3)))

/-- The blocks of a lane's landing buffer, with some contents. -/
abbrev rsAny (c : Dev nD) (l : Fin 4) : sProp 𝕄 := bigSep Finset.univ fun h : Fin 3 => blkAny (F := F) c (rsP h l)

/-- Both landing buffers are the lanes' blocks; -/
theorem rs_split (c : Dev nD) :
    iprop((∃ f : Buf (Elt F) ((c : Thread nD τ).loc cc0_scratch0), ((c : Thread nD τ).loc cc0_scratch0) ↦{fullShare} f)
      ∗ ∃ f : Buf (Elt F) ((c : Thread nD τ).loc cc0_scratch1), ((c : Thread nD τ).loc cc0_scratch1) ↦{fullShare} f)
      ⊢ bigSep Finset.univ fun l : Fin 4 => rsAny (F := F) c l := by
  rw [four]
  have h0 := halves_split (F := F) c (ℓ := (c : Thread nD τ).loc cc0_scratch0) slotS (fun j h => rsP h ⟨j.val, by omega⟩) slotS_disjoint slotS_cover (half0 c)
  have h1 := halves_split (F := F) c (ℓ := (c : Thread nD τ).loc cc0_scratch1) slotS (fun j h => rsP h ⟨2 + j.val, by omega⟩) slotS_disjoint slotS_cover (half1 c)
  iintro ⟨H0, H1⟩
  ihave H0 := h0 $$ H0
  ihave H1 := h1 $$ H1
  icases H0 with ⟨Ha, Hb⟩
  icases H1 with ⟨Hc, Hd⟩
  isplitl [Ha]; · iexact Ha
  isplitl [Hb]; · iexact Hb
  isplitl [Hc]; · iexact Hc
  iexact Hd
/-- and put together again. -/
theorem rs_join (c : Dev nD) (f0 : Buf (Elt F) ((c : Thread nD τ).loc cc0_scratch0)) (f1 : Buf (Elt F) ((c : Thread nD τ).loc cc0_scratch1)) :
    (bigSep Finset.univ fun l : Fin 4 => rsAny (F := F) c l)
      ⊢ iprop((∃ f : Buf (Elt F) ((c : Thread nD τ).loc cc0_scratch0), ((c : Thread nD τ).loc cc0_scratch0) ↦{fullShare} f)
        ∗ ∃ f : Buf (Elt F) ((c : Thread nD τ).loc cc0_scratch1), ((c : Thread nD τ).loc cc0_scratch1) ↦{fullShare} f) := by
  rw [four]
  have h0 := halves_join (F := F) c (ℓ := (c : Thread nD τ).loc cc0_scratch0) slotS (fun j h => rsP h ⟨j.val, by omega⟩) slotS_disjoint slotS_cover (half0 c) f0
  have h1 := halves_join (F := F) c (ℓ := (c : Thread nD τ).loc cc0_scratch1) slotS (fun j h => rsP h ⟨2 + j.val, by omega⟩) slotS_disjoint slotS_cover (half1 c) f1
  iintro ⟨Ha, Hb, Hc, Hd⟩
  isplitl [Ha Hb]
  · iapply h0
    isplitl [Ha]; · iexact Ha
    iexact Hb
  · iapply h1
    isplitl [Hc]; · iexact Hc
    iexact Hd

/-! ## A lane's blocks at the start and at the end -/

/-- At the start a lane keeps its own place in the result and lends all the others to the device it receives from. -/
theorem lane_lend (c : Dev nD) (l : Fin 4) :
    iprop((bigSep Finset.univ fun q : Fin 4 => blkAny (F := F) c (oP q l)) ∗ rsAny (F := F) c l)
      ⊢ iprop(outB (F := F) c l ∗ landings (F := F) (bwd l c) l) := by
  rw [four_turn l 3 c]; unfold landings rsAny; rw [three, six, fwd_bwd]
  show iprop((blkAny (F := F) c (oP (chk l 3 c) l) ∗ blkAny (F := F) c (oP (chk l 4 c) l) ∗ blkAny (F := F) c (oP (chk l 5 c) l) ∗ blkAny (F := F) c (oP (chk l 6 c) l))
      ∗ blkAny (F := F) c (rsP 0 l) ∗ blkAny (F := F) c (rsP 1 l) ∗ blkAny (F := F) c (rsP 2 l))
    ⊢ iprop(outB (F := F) c l ∗ blkAny (F := F) c (rsP 0 l) ∗ blkAny (F := F) c (rsP 1 l) ∗ blkAny (F := F) c (rsP 2 l)
      ∗ blkAny (F := F) c (oP (chk l 3 (bwd l c)) l) ∗ blkAny (F := F) c (oP (chk l 4 (bwd l c)) l) ∗ blkAny (F := F) c (oP (chk l 5 (bwd l c)) l))
  rw [chk_succ, chk_succ, chk_succ]
  unfold outB
  iintro ⟨⟨H3, H4, H5, H6⟩, R0, R1, R2⟩
  isplitl [H3]; · iexact H3
  isplitl [R0]; · iexact R0
  isplitl [R1]; · iexact R1
  isplitl [R2]; · iexact R2
  isplitl [H4]; · iexact H4
  isplitl [H5]; · iexact H5
  iexact H6

theorem blk_any (c : Dev nD) (m : Memref sig .tc .vmem S512x256 .f32) (V : Blk F) : blk c m V ⊢ blkAny (F := F) c m := by
  unfold blkAny; iintro H; iexists V; iexact H

/-- At the end a lane holds its block of `x` that was sent, the finished blocks of the result, and its landing buffer. -/
theorem lane_end (c : Dev nD) (l : Fin 4) :
    endM X c l 6 ⊢ iprop(srcB X c l 0 ∗ (bigSep Finset.univ fun q : Fin 4 => blk c (oP q l) (FIN X q l)) ∗ rsAny (F := F) c l) := by
  rw [four_turn l 3 c]; unfold rsAny; rw [three]
  show iprop(blk c (oP (chk l (2 + 3) c) l) (VS X (2 + 3) l c) ∗ blk c (oP (chk l (1 + 3) c) l) (VS X (1 + 3) l c) ∗ blk c (oP (chk l (0 + 3) c) l) (VS X (0 + 3) l c)
      ∗ blk c (rsP 1 l) (VS X 2 l c) ∗ blk c (rsP 0 l) (VS X 1 l c) ∗ srcB X c l 0
      ∗ blk c (oP (chk l (3 + 3) c) l) (VS X (3 + 3) l c) ∗ blk c (rsP 2 l) (VS X 2 l (bwd l c)))
    ⊢ iprop(srcB X c l 0 ∗ (blk c (oP (chk l (0 + 3) c) l) (FIN X (chk l (0 + 3) c) l) ∗ blk c (oP (chk l (1 + 3) c) l) (FIN X (chk l (1 + 3) c) l)
        ∗ blk c (oP (chk l (2 + 3) c) l) (FIN X (chk l (2 + 3) c) l) ∗ blk c (oP (chk l (3 + 3) c) l) (FIN X (chk l (3 + 3) c) l))
      ∗ blkAny (F := F) c (rsP 0 l) ∗ blkAny (F := F) c (rsP 1 l) ∗ blkAny (F := F) c (rsP 2 l))
  rw [VS_fin X 0, VS_fin X 1, VS_fin X 2, VS_fin X 3]
  iintro ⟨H5, H4, H3, R1, R0, H0, H6, R2⟩
  isplitl [H0]; · iexact H0
  isplitl [H3 H4 H5 H6]
  · isplitl [H3]; · iexact H3
    isplitl [H4]; · iexact H4
    isplitl [H5]; · iexact H5
    iexact H6
  isplitl [R0]; · iapply (blk_any c _ _); iexact R0
  isplitl [R1]; · iapply (blk_any c _ _); iexact R1
  iapply (blk_any c _ _); iexact R2

end Cert.RingReduce

end
-- ==== Proof.Parts.lean ====
/-
# The adding half of the body

The parts of the program in which chunks are added up on their way round, each a run of steps from one state to the next.
-/
module

public import proofs.«01_k».proof.Proof.Phases

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## The parts -/

variable (K : Dev nD × (Unit ⊕ Slot) → ℕ) (c : Dev nD)
  {h0 : (xM).IsWhole} {h1 : (oM).IsWhole} {h2 : (Memref.whole cc0_scratch0 : Memref sig .tc .vmem S3x512x512 .f32).IsWhole}
  {h3 : (Memref.whole cc0_scratch1 : Memref sig .tc .vmem S3x512x512 .f32).IsWhole}

theorem part2_steps {a b d : BitVec 32} {R : PUnit → sProp 𝕄}
    (H : Sts X K c 3 (pFly c 0 0) (pFly c 1 0) (pFly c 2 0) (pSrc X c 3 0) ⊢ R ⟨⟩) :
    Sts X K c 0 (pSrc X c 0 0) (pSrc X c 1 0) (pSrc X c 2 0) (pSrc X c 3 0)
      ⊢ wpc c (k0_part2_skel (F := F) xM h0 oM h1 (Memref.whole cc0_scratch0) h2 (Memref.whole cc0_scratch1) h3 cc0_scratch2 cc0_scratch3 c a b d) R := by
  unfold k0_part2_skel
  refine st_send X K c 0 0 rfl (by decide) rfl (dev3 c) (slice_at xM (off1 c)) rfl rfl rfl ?_
  refine st_send X K c 0 2 rfl (by decide) rfl (dev4 c) (slice_at xM (off2 c)) rfl rfl rfl ?_
  refine st_send X K c 0 1 rfl (by decide) rfl (dev5 c) (slice_at xM (off3 c)) rfl rfl rfl ?_
  exact st_ret X K c rfl rfl rfl rfl rfl H

theorem part3_steps {a b d : BitVec 32} {R : BitVec 32 → sProp 𝕄}
    (H : ∀ r, Sts X K c 4 (pRcv X c 0 0) (pFly c 1 0) (pFly c 2 0) (pFly c 3 0) ⊢ R r) :
    Sts X K c 3 (pFly c 0 0) (pFly c 1 0) (pFly c 2 0) (pSrc X c 3 0)
      ⊢ wpc c (k0_part3_skel (F := F) xM h0 oM h1 (Memref.whole cc0_scratch0) h2 (Memref.whole cc0_scratch1) h3 cc0_scratch2 cc0_scratch3 c a b d) R := by
  unfold k0_part3_skel
  refine st_send X K c 0 3 rfl (by decide) rfl (dev6 c) (slice_at xM (off4 c)) rfl rfl rfl ?_
  refine st_recv X K c 0 0 rfl (by decide) rfl (credit_rs 0 0) ?_
  exact st_ret X K c rfl rfl rfl rfl rfl (H _)

theorem part4_steps {a b d e : BitVec 32} {R : (Σ' (_ : BitVec 32) (_ : BitVec 32), BitVec 32) → sProp 𝕄}
    (H : ∀ r, Sts X K c 5 (pFly c 0 1) (pFly c 1 0) (pRcv X c 2 0) (pFly c 3 0) ⊢ R r) :
    Sts X K c 4 (pRcv X c 0 0) (pFly c 1 0) (pFly c 2 0) (pFly c 3 0)
      ⊢ wpc c (k0_part4_skel (F := F) xM h0 oM h1 (Memref.whole cc0_scratch0) h2 (Memref.whole cc0_scratch1) h3 cc0_scratch2 cc0_scratch3 c a b d e) R := by
  unfold k0_part4_skel
  refine st_load_slot X K c 0 0 rfl ?_
  refine st_load_x X K c 0 0 (off5_0 c) ?_
  refine st_load_slot X K c 0 0 rfl ?_
  refine st_store_slot X K c 0 0 (by decide) rfl (pay_slot X c 0 0 (by decide)) ?_
  refine st_send X K c 1 0 rfl (by decide) rfl (dev7 c) rfl rfl rfl rfl ?_
  refine st_recv X K c 0 2 rfl (by decide) rfl (credit_rs 0 2) ?_
  exact st_ret X K c rfl rfl rfl rfl rfl (H _)

theorem part5_steps {a b d e f : BitVec 32} {R : (Σ' (_ : BitVec 32), BitVec 32) → sProp 𝕄}
    (H : ∀ r, Sts X K c 6 (pFly c 0 1) (pFly c 1 0) (pFly c 2 1) (pFly c 3 0) ⊢ R r) :
    Sts X K c 5 (pFly c 0 1) (pFly c 1 0) (pRcv X c 2 0) (pFly c 3 0)
      ⊢ wpc c (k0_part5_skel (F := F) xM h0 oM h1 (Memref.whole cc0_scratch0) h2 (Memref.whole cc0_scratch1) h3 cc0_scratch2 cc0_scratch3 c a b d e f) R := by
  unfold k0_part5_skel
  refine st_load_slot X K c 0 2 rfl ?_
  refine st_load_x X K c 0 2 (off6_0 c) ?_
  refine st_load_slot X K c 0 2 rfl ?_
  refine st_store_slot X K c 0 2 (by decide) rfl (pay_slot X c 2 0 (by decide)) ?_
  refine st_send X K c 1 2 rfl (by decide) rfl (dev8 c) rfl rfl rfl rfl ?_
  exact st_ret X K c rfl rfl rfl rfl rfl (H _)

theorem part6_steps {a b d e : BitVec 32} {R : PUnit → sProp 𝕄}
    (H : Sts X K c 6 (pFly c 0 1) (pSrc X c 1 1) (pFly c 2 1) (pFly c 3 0) ⊢ R ⟨⟩) :
    Sts X K c 6 (pFly c 0 1) (pFly c 1 0) (pFly c 2 1) (pFly c 3 0)
      ⊢ wpc c (k0_part6_skel (F := F) xM h0 oM h1 (Memref.whole cc0_scratch0) h2 (Memref.whole cc0_scratch1) h3 cc0_scratch2 cc0_scratch3 c a b d e) R := by
  unfold k0_part6_skel
  refine st_recv X K c 0 1 rfl (by decide) rfl (credit_rs 0 1) ?_
  refine st_load_slot X K c 0 1 rfl ?_
  refine st_load_x X K c 0 1 (off7_0 c) ?_
  refine st_load_slot X K c 0 1 rfl ?_
  refine st_store_slot X K c 0 1 (by decide) rfl (pay_slot X c 1 0 (by decide)) ?_
  exact st_ret X K c rfl rfl rfl rfl rfl H

theorem part7_steps {a b : BitVec 32} {R : FVec F S512x256 .f32 → sProp 𝕄}
    (H : Sts X K c 7 (pFly c 0 1) (pFly c 1 1) (pFly c 2 1) (pRcv X c 3 0) ⊢ R (k0_pay4 (lift1 (VS X 0 3 (bwd 3 c))) (xblk X c (chk 3 1 c) 3))) :
    Sts X K c 6 (pFly c 0 1) (pSrc X c 1 1) (pFly c 2 1) (pFly c 3 0)
      ⊢ wpc c (k0_part7_skel (F := F) xM h0 oM h1 (Memref.whole cc0_scratch0) h2 (Memref.whole cc0_scratch1) h3 cc0_scratch2 cc0_scratch3 c a b) R := by
  unfold k0_part7_skel
  refine st_send X K c 1 1 rfl (by decide) rfl (dev9 c) rfl rfl rfl rfl ?_
  refine st_recv X K c 0 3 rfl (by decide) rfl (credit_rs 0 3) ?_
  refine st_load_slot X K c 0 3 rfl ?_
  refine st_load_x X K c 0 3 (off8_0 c) ?_
  exact st_ret X K c rfl rfl rfl rfl rfl H

theorem part8_steps {a b d : BitVec 32} {R : (Σ' (_ : BitVec 32) (_ : BitVec 32), BitVec 32) → sProp 𝕄}
    (H : ∀ r, Sts X K c 8 (pRcv X c 0 1) (pFly c 1 1) (pFly c 2 1) (pFly c 3 1) ⊢ R r) :
    Sts X K c 7 (pFly c 0 1) (pFly c 1 1) (pFly c 2 1) (pRcv X c 3 0)
      ⊢ wpc c (k0_part8_skel (F := F) xM h0 oM h1 (Memref.whole cc0_scratch0) h2 (Memref.whole cc0_scratch1) h3 cc0_scratch2 cc0_scratch3 c a b d (k0_pay4 (lift1 (VS X 0 3 (bwd 3 c))) (xblk X c (chk 3 1 c) 3))) R := by
  unfold k0_part8_skel
  refine st_load_slot X K c 0 3 rfl ?_
  refine st_store_slot X K c 0 3 (by decide) rfl (pay_slot X c 3 0 (by decide)) ?_
  refine st_send X K c 1 3 rfl (by decide) rfl (dev10 c) rfl rfl rfl rfl ?_
  refine st_recv X K c 1 0 rfl (by decide) rfl (credit_rs 1 0) ?_
  exact st_ret X K c rfl rfl rfl rfl rfl (H _)

theorem part9_steps {a b d e f : BitVec 32} {R : PUnit → sProp 𝕄}
    (H : Sts X K c 9 (pFly c 0 2) (pFly c 1 1) (pFly c 2 1) (pFly c 3 1) ⊢ R ⟨⟩) :
    Sts X K c 8 (pRcv X c 0 1) (pFly c 1 1) (pFly c 2 1) (pFly c 3 1)
      ⊢ wpc c (k0_part9_skel (F := F) xM h0 oM h1 (Memref.whole cc0_scratch0) h2 (Memref.whole cc0_scratch1) h3 cc0_scratch2 cc0_scratch3 c a b d e f) R := by
  unfold k0_part9_skel
  refine st_load_slot X K c 1 0 rfl ?_
  refine st_load_x X K c 1 0 (off5_1 c) ?_
  refine st_load_slot X K c 1 0 rfl ?_
  refine st_store_slot X K c 1 0 (by decide) rfl (pay_slot X c 0 1 (by decide)) ?_
  refine st_send X K c 2 0 rfl (by decide) rfl (dev11 c) rfl rfl rfl rfl ?_
  exact st_ret X K c rfl rfl rfl rfl rfl H

theorem part10_steps {a b : BitVec 32} {R : PUnit → sProp 𝕄}
    (H : Sts X K c 9 (pFly c 0 2) (pFly c 1 1) (pSrc X c 2 2) (pFly c 3 1) ⊢ R ⟨⟩) :
    Sts X K c 9 (pFly c 0 2) (pFly c 1 1) (pFly c 2 1) (pFly c 3 1)
      ⊢ wpc c (k0_part10_skel (F := F) xM h0 oM h1 (Memref.whole cc0_scratch0) h2 (Memref.whole cc0_scratch1) h3 cc0_scratch2 cc0_scratch3 c a b) R := by
  unfold k0_part10_skel
  refine st_recv X K c 1 2 rfl (by decide) rfl (credit_rs 1 2) ?_
  refine st_load_slot X K c 1 2 rfl ?_
  refine st_load_x X K c 1 2 (off6_1 c) ?_
  refine st_load_slot X K c 1 2 rfl ?_
  refine st_store_slot X K c 1 2 (by decide) rfl (pay_slot X c 2 1 (by decide)) ?_
  exact st_ret X K c rfl rfl rfl rfl rfl H

theorem part11_steps {a b : BitVec 32} {R : (Σ' (_ : FVec F S512x256 .f32), FVec F S512x256 .f32) → sProp 𝕄}
    (H : Sts X K c 10 (pFly c 0 2) (pRcv X c 1 1) (pFly c 2 2) (pFly c 3 1) ⊢ R ⟨k0_pay8 (lift1 (VS X 1 1 (bwd 1 c))), k0_pay9 (xblk X c (chk 1 2 c) 1)⟩) :
    Sts X K c 9 (pFly c 0 2) (pFly c 1 1) (pSrc X c 2 2) (pFly c 3 1)
      ⊢ wpc c (k0_part11_skel (F := F) xM h0 oM h1 (Memref.whole cc0_scratch0) h2 (Memref.whole cc0_scratch1) h3 cc0_scratch2 cc0_scratch3 c a b) R := by
  unfold k0_part11_skel
  refine st_send X K c 2 2 rfl (by decide) rfl (dev12 c) rfl rfl rfl rfl ?_
  refine st_recv X K c 1 1 rfl (by decide) rfl (credit_rs 1 1) ?_
  refine st_load_slot X K c 1 1 rfl ?_
  refine st_load_x X K c 1 1 (off7_1 c) ?_
  exact st_ret X K c rfl rfl rfl rfl rfl H

theorem part12_steps {a b d : BitVec 32} {R : (Σ' (_ : BitVec 32) (_ : BitVec 32), BitVec 1) → sProp 𝕄}
    (H : ∀ r, Sts X K c 11 (pFly c 0 2) (pFly c 1 2) (pFly c 2 2) (pRcv X c 3 1) ⊢ R r) :
    Sts X K c 10 (pFly c 0 2) (pRcv X c 1 1) (pFly c 2 2) (pFly c 3 1)
      ⊢ wpc c (k0_part12_skel (F := F) xM h0 oM h1 (Memref.whole cc0_scratch0) h2 (Memref.whole cc0_scratch1) h3 cc0_scratch2 cc0_scratch3 c a b d (k0_pay8 (lift1 (VS X 1 1 (bwd 1 c)))) (k0_pay9 (xblk X c (chk 1 2 c) 1))) R := by
  unfold k0_part12_skel
  refine st_load_slot X K c 1 1 rfl ?_
  refine st_store_slot X K c 1 1 (by decide) rfl (pay_slot X c 1 1 (by decide)) ?_
  refine st_send X K c 2 1 rfl (by decide) rfl (dev13 c) rfl rfl rfl rfl ?_
  refine st_recv X K c 1 3 rfl (by decide) rfl (credit_rs 1 3) ?_
  exact st_ret X K c rfl rfl rfl rfl rfl (H _)

theorem part13_steps {a b d e : BitVec 32} {f : BitVec 1} {R : PUnit → sProp 𝕄}
    (H : Sts X K c 12 (pFly c 0 2) (pFly c 1 2) (pFly c 2 2) (pFly c 3 2) ⊢ R ⟨⟩) :
    Sts X K c 11 (pFly c 0 2) (pFly c 1 2) (pFly c 2 2) (pRcv X c 3 1)
      ⊢ wpc c (k0_part13_skel (F := F) xM h0 oM h1 (Memref.whole cc0_scratch0) h2 (Memref.whole cc0_scratch1) h3 cc0_scratch2 cc0_scratch3 c a b d e f) R := by
  unfold k0_part13_skel
  refine st_load_slot X K c 1 3 rfl ?_
  refine st_load_x X K c 1 3 (off8_1 c) ?_
  refine st_load_slot X K c 1 3 rfl ?_
  refine st_store_slot X K c 1 3 (by decide) rfl (pay_slot X c 3 1 (by decide)) ?_
  refine st_send X K c 2 3 rfl (by decide) rfl (dev14 c) rfl rfl rfl rfl ?_
  exact st_ret X K c rfl rfl rfl rfl rfl H

end Cert.RingReduce

end
-- ==== Proof.Parts2.lean ====
/-
# The passing half of the body

The parts of the program in which finished chunks are passed round and the device's own transfers waited for.
-/
module

public import proofs.«01_k».proof.Proof.Phases

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## The parts -/

variable (K : Dev nD × (Unit ⊕ Slot) → ℕ) (c : Dev nD)
  {h0 : (xM).IsWhole} {h1 : (oM).IsWhole} {h2 : (Memref.whole cc0_scratch0 : Memref sig .tc .vmem S3x512x512 .f32).IsWhole}
  {h3 : (Memref.whole cc0_scratch1 : Memref sig .tc .vmem S3x512x512 .f32).IsWhole}

theorem part14_steps {a b : BitVec 32} {R : PUnit → sProp 𝕄}
    (H : Sts X K c 12 (gSrc X c 0 3) (pFly c 1 2) (pFly c 2 2) (pFly c 3 2) ⊢ R ⟨⟩) :
    Sts X K c 12 (pFly c 0 2) (pFly c 1 2) (pFly c 2 2) (pFly c 3 2)
      ⊢ wpc c (k0_part14_skel (F := F) xM h0 oM h1 (Memref.whole cc0_scratch0) h2 (Memref.whole cc0_scratch1) h3 cc0_scratch2 cc0_scratch3 c a b) R := by
  unfold k0_part14_skel
  refine st_recv X K c 2 0 rfl (by decide) rfl (credit_rs 2 0) ?_
  refine st_load_slot X K c 2 0 rfl ?_
  refine st_load_x X K c 2 0 (off9 c) ?_
  refine st_load_out X K c 0 rfl (off9 c) fun _ => ?_
  refine st_store_out X K c 0 rfl (off9 c) (pay_out X c 0 2 (by decide)) ?_
  exact st_ret X K c rfl rfl rfl rfl rfl H

theorem part15_steps {a b : BitVec 32} {R : (Σ' (_ : BitVec 32), BitVec 32) → sProp 𝕄}
    (H : ∀ r, Sts X K c 13 (gFly X c 0 3) (pFly c 1 2) (gSrc X c 2 3) (pFly c 3 2) ⊢ R r) :
    Sts X K c 12 (gSrc X c 0 3) (pFly c 1 2) (pFly c 2 2) (pFly c 3 2)
      ⊢ wpc c (k0_part15_skel (F := F) xM h0 oM h1 (Memref.whole cc0_scratch0) h2 (Memref.whole cc0_scratch1) h3 cc0_scratch2 cc0_scratch3 c a b) R := by
  unfold k0_part15_skel
  refine st_send X K c 3 0 rfl (by decide) rfl (dev15 c) (slice_at oM (off10 c)) (slice_at oM (off10 c)) rfl rfl ?_
  refine st_recv X K c 2 2 rfl (by decide) rfl (credit_rs 2 2) ?_
  refine st_load_slot X K c 2 2 rfl ?_
  refine st_load_x X K c 2 2 (off11 c) ?_
  refine st_load_out X K c 2 rfl (off11 c) fun _ => ?_
  refine st_store_out X K c 2 rfl (off11 c) (pay_out X c 2 2 (by decide)) ?_
  exact st_ret X K c rfl rfl rfl rfl rfl (H _)

theorem part16_steps {a b d e f : BitVec 32} {R : (Σ' (_ : BitVec 32), FVec F S512x256 .f32) → sProp 𝕄}
    (H : ∀ r : BitVec 32, Sts X K c 14 (gFly X c 0 3) (pRcv X c 1 2) (gFly X c 2 3) (pFly c 3 2) ⊢ R ⟨r, k0_pay14 (lift1 (VS X 2 1 (bwd 1 c)))⟩) :
    Sts X K c 13 (gFly X c 0 3) (pFly c 1 2) (gSrc X c 2 3) (pFly c 3 2)
      ⊢ wpc c (k0_part16_skel (F := F) xM h0 oM h1 (Memref.whole cc0_scratch0) h2 (Memref.whole cc0_scratch1) h3 cc0_scratch2 cc0_scratch3 c a b d e f) R := by
  unfold k0_part16_skel
  refine st_send X K c 3 2 rfl (by decide) rfl (dev16 c) (slice_at oM (off12 c)) (slice_at oM (off12 c)) rfl rfl ?_
  refine st_recv X K c 2 1 rfl (by decide) rfl (credit_rs 2 1) ?_
  refine st_load_slot X K c 2 1 rfl ?_
  exact st_ret X K c rfl rfl rfl rfl rfl (H _)

theorem part17_steps {a b d e : BitVec 32} {R : (Σ' (_ : BitVec 32), BitVec 32) → sProp 𝕄}
    (H : ∀ r, Sts X K c 15 (gFly X c 0 3) (gFly X c 1 3) (gFly X c 2 3) (pRcv X c 3 2) ⊢ R r) :
    Sts X K c 14 (gFly X c 0 3) (pRcv X c 1 2) (gFly X c 2 3) (pFly c 3 2)
      ⊢ wpc c (k0_part17_skel (F := F) xM h0 oM h1 (Memref.whole cc0_scratch0) h2 (Memref.whole cc0_scratch1) h3 cc0_scratch2 cc0_scratch3 c a b d e (k0_pay14 (lift1 (VS X 2 1 (bwd 1 c))))) R := by
  unfold k0_part17_skel
  refine st_load_x X K c 2 1 (off13 c) ?_
  refine st_load_out X K c 1 rfl (off13 c) fun _ => ?_
  refine st_store_out X K c 1 rfl (off13 c) (pay_out X c 1 2 (by decide)) ?_
  refine st_send X K c 3 1 rfl (by decide) rfl (dev17 c) (slice_at oM (off14 c)) (slice_at oM (off14 c)) rfl rfl ?_
  refine st_recv X K c 2 3 rfl (by decide) rfl (credit_rs 2 3) ?_
  exact st_ret X K c rfl rfl rfl rfl rfl (H _)

theorem part18_steps {a b d e : BitVec 32} {R : PUnit → sProp 𝕄}
    (H : Sts X K c 16 (gFly X c 0 3) (gFly X c 1 3) (gFly X c 2 3) (gFly X c 3 3) ⊢ R ⟨⟩) :
    Sts X K c 15 (gFly X c 0 3) (gFly X c 1 3) (gFly X c 2 3) (pRcv X c 3 2)
      ⊢ wpc c (k0_part18_skel (F := F) xM h0 oM h1 (Memref.whole cc0_scratch0) h2 (Memref.whole cc0_scratch1) h3 cc0_scratch2 cc0_scratch3 c a b d e) R := by
  unfold k0_part18_skel
  refine st_load_slot X K c 2 3 rfl ?_
  refine st_load_x X K c 2 3 (off15 c) ?_
  refine st_load_out X K c 3 rfl (off15 c) fun _ => ?_
  refine st_store_out X K c 3 rfl (off15 c) (pay_out X c 3 2 (by decide)) ?_
  refine st_send X K c 3 3 rfl (by decide) rfl (dev18 c) (slice_at oM (off16 c)) (slice_at oM (off16 c)) rfl rfl ?_
  exact st_ret X K c rfl rfl rfl rfl rfl H

theorem part19_steps {a b d : BitVec 32} {R : (Σ' (_ : BitVec 32), BitVec 32) → sProp 𝕄}
    (H : ∀ r, Sts X K c 17 (gFly X c 0 4) (gFly X c 1 3) (gSrc X c 2 4) (gFly X c 3 3) ⊢ R r) :
    Sts X K c 16 (gFly X c 0 3) (gFly X c 1 3) (gFly X c 2 3) (gFly X c 3 3)
      ⊢ wpc c (k0_part19_skel (F := F) xM h0 oM h1 (Memref.whole cc0_scratch0) h2 (Memref.whole cc0_scratch1) h3 cc0_scratch2 cc0_scratch3 c a b d) R := by
  unfold k0_part19_skel
  refine st_recv_on X K c 3 0 (by decide) rfl (by decide) rfl (credit_slice oM) ?_
  refine st_send X K c 4 0 rfl (by decide) rfl (dev19 c) (slice_at oM (off17_1 c)) (slice_at oM (off17_1 c)) rfl rfl ?_
  refine st_recv_on X K c 3 2 (by decide) rfl (by decide) rfl (credit_slice oM) ?_
  exact st_ret X K c rfl rfl rfl rfl rfl (H _)

theorem part20_steps {a b d e f : BitVec 32} {R : (Σ' (_ : BitVec 32), BitVec 32) → sProp 𝕄}
    (H : ∀ r, Sts X K c 18 (gFly X c 0 4) (gSrc X c 1 4) (gFly X c 2 4) (gFly X c 3 3) ⊢ R r) :
    Sts X K c 17 (gFly X c 0 4) (gFly X c 1 3) (gSrc X c 2 4) (gFly X c 3 3)
      ⊢ wpc c (k0_part20_skel (F := F) xM h0 oM h1 (Memref.whole cc0_scratch0) h2 (Memref.whole cc0_scratch1) h3 cc0_scratch2 cc0_scratch3 c a b d e f) R := by
  unfold k0_part20_skel
  refine st_send X K c 4 2 rfl (by decide) rfl (dev20 c) (slice_at oM (off18_1 c)) (slice_at oM (off18_1 c)) rfl rfl ?_
  refine st_recv_on X K c 3 1 (by decide) rfl (by decide) rfl (credit_slice oM) ?_
  exact st_ret X K c rfl rfl rfl rfl rfl (H _)

theorem part21_steps {a b d e f : BitVec 32} {R : (Σ' (_ : BitVec 32) (_ : BitVec 32) (_ : BitVec 1) (_ : BitVec 1), BitVec 32) → sProp 𝕄}
    (H : ∀ r, Sts X K c 19 (gFly X c 0 4) (gFly X c 1 4) (gFly X c 2 4) (gSrc X c 3 4) ⊢ R r) :
    Sts X K c 18 (gFly X c 0 4) (gSrc X c 1 4) (gFly X c 2 4) (gFly X c 3 3)
      ⊢ wpc c (k0_part21_skel (F := F) xM h0 oM h1 (Memref.whole cc0_scratch0) h2 (Memref.whole cc0_scratch1) h3 cc0_scratch2 cc0_scratch3 c a b d e f) R := by
  unfold k0_part21_skel
  refine st_send X K c 4 1 rfl (by decide) rfl (dev21 c) (slice_at oM (off19_1 c)) (slice_at oM (off19_1 c)) rfl rfl ?_
  refine st_recv_on X K c 3 3 (by decide) rfl (by decide) rfl (credit_slice oM) ?_
  exact st_ret X K c rfl rfl rfl rfl rfl (H _)

theorem part22_steps {a b d e f j : BitVec 32} {g i : BitVec 1} {R : (Σ' (_ : BitVec 32), BitVec 32) → sProp 𝕄}
    (H : ∀ r, Sts X K c 20 (gSrc X c 0 5) (gFly X c 1 4) (gFly X c 2 4) (gFly X c 3 4) ⊢ R r) :
    Sts X K c 19 (gFly X c 0 4) (gFly X c 1 4) (gFly X c 2 4) (gSrc X c 3 4)
      ⊢ wpc c (k0_part22_skel (F := F) xM h0 oM h1 (Memref.whole cc0_scratch0) h2 (Memref.whole cc0_scratch1) h3 cc0_scratch2 cc0_scratch3 c a b d e f g i j) R := by
  unfold k0_part22_skel
  refine st_send X K c 4 3 rfl (by decide) rfl (dev22 c) (slice_at oM (off20_1 c)) (slice_at oM (off20_1 c)) rfl rfl ?_
  refine st_recv_on X K c 4 0 (by decide) rfl (by decide) rfl (credit_slice oM) ?_
  exact st_ret X K c rfl rfl rfl rfl rfl (H _)

theorem part23_steps {a b d e f : BitVec 32} {R : BitVec 32 → sProp 𝕄}
    (H : ∀ r, Sts X K c 21 (gFly X c 0 5) (gFly X c 1 4) (gSrc X c 2 5) (gFly X c 3 4) ⊢ R r) :
    Sts X K c 20 (gSrc X c 0 5) (gFly X c 1 4) (gFly X c 2 4) (gFly X c 3 4)
      ⊢ wpc c (k0_part23_skel (F := F) xM h0 oM h1 (Memref.whole cc0_scratch0) h2 (Memref.whole cc0_scratch1) h3 cc0_scratch2 cc0_scratch3 c a b d e f) R := by
  unfold k0_part23_skel
  refine st_send X K c 5 0 rfl (by decide) rfl (dev23 c) (slice_at oM (off17_2 c)) (slice_at oM (off17_2 c)) rfl rfl ?_
  refine st_recv_on X K c 4 2 (by decide) rfl (by decide) rfl (credit_slice oM) ?_
  exact st_ret X K c rfl rfl rfl rfl rfl (H _)

theorem part24_steps {a b d e : BitVec 32} {R : PUnit → sProp 𝕄}
    (H : Sts X K c 22 (gFly X c 0 5) (gSrc X c 1 5) (gFly X c 2 5) (gFly X c 3 4) ⊢ R ⟨⟩) :
    Sts X K c 21 (gFly X c 0 5) (gFly X c 1 4) (gSrc X c 2 5) (gFly X c 3 4)
      ⊢ wpc c (k0_part24_skel (F := F) xM h0 oM h1 (Memref.whole cc0_scratch0) h2 (Memref.whole cc0_scratch1) h3 cc0_scratch2 cc0_scratch3 c a b d e) R := by
  unfold k0_part24_skel
  refine st_send X K c 5 2 rfl (by decide) rfl (dev24 c) (slice_at oM (off18_2 c)) (slice_at oM (off18_2 c)) rfl rfl ?_
  refine st_recv_on X K c 4 1 (by decide) rfl (by decide) rfl (credit_slice oM) ?_
  exact st_ret X K c rfl rfl rfl rfl rfl H

theorem part25_steps {a b : BitVec 32} {R : PUnit → sProp 𝕄}
    (H : Sts X K c 24 (gFly X c 0 5) (gFly X c 1 5) (gFly X c 2 5) (gFly X c 3 5) ⊢ R ⟨⟩) :
    Sts X K c 22 (gFly X c 0 5) (gSrc X c 1 5) (gFly X c 2 5) (gFly X c 3 4)
      ⊢ wpc c (k0_part25_skel (F := F) xM h0 oM h1 (Memref.whole cc0_scratch0) h2 (Memref.whole cc0_scratch1) h3 cc0_scratch2 cc0_scratch3 c a b) R := by
  unfold k0_part25_skel
  refine st_send X K c 5 1 rfl (by decide) rfl (dev25 c) (slice_at oM (off19_2 c)) (slice_at oM (off19_2 c)) rfl rfl ?_
  refine st_recv_on X K c 4 3 (by decide) rfl (by decide) rfl (credit_slice oM) ?_
  refine st_send X K c 5 3 rfl (by decide) rfl (dev26 c) (slice_at oM (off20_2 c)) (slice_at oM (off20_2 c)) rfl rfl ?_
  exact st_ret X K c rfl rfl rfl rfl rfl H

theorem part26_steps {a b : BitVec 32} {R : PUnit → sProp 𝕄}
    (H : Sts X K c 24 (eSrc X c 0 0) (eSrc X c 1 0) (eSrc X c 2 0) (eSrc X c 3 0) ⊢ R ⟨⟩) :
    Sts X K c 24 (gFly X c 0 5) (gFly X c 1 5) (gFly X c 2 5) (gFly X c 3 5)
      ⊢ wpc c (k0_part26_skel (F := F) xM h0 oM h1 (Memref.whole cc0_scratch0) h2 (Memref.whole cc0_scratch1) h3 cc0_scratch2 cc0_scratch3 c a b) R := by
  unfold k0_part26_skel
  refine st_recv_on X K c 5 0 (by decide) rfl (by decide) rfl (credit_slice oM) ?_
  refine st_recv_on X K c 5 2 (by decide) rfl (by decide) rfl (credit_slice oM) ?_
  refine st_recv_on X K c 5 1 (by decide) rfl (by decide) rfl (credit_slice oM) ?_
  refine st_recv_on X K c 5 3 (by decide) rfl (by decide) rfl (credit_slice oM) ?_
  exact st_ret X K c rfl rfl rfl rfl rfl H

theorem part27_steps {R : PUnit → sProp 𝕄}
    (H : Sts X K c 24 (eSrc X c 0 2) (eSrc X c 1 1) (eSrc X c 2 1) (eSrc X c 3 1) ⊢ R ⟨⟩) :
    Sts X K c 24 (eSrc X c 0 0) (eSrc X c 1 0) (eSrc X c 2 0) (eSrc X c 3 0)
      ⊢ wpc c (k0_part27_skel (F := F) xM h0 oM h1 (Memref.whole cc0_scratch0) h2 (Memref.whole cc0_scratch1) h3 cc0_scratch2 cc0_scratch3 c) R := by
  unfold k0_part27_skel
  refine st_end X K c 0 0 rfl (by decide) rfl (credit_slice xM) ?_
  refine st_end X K c 0 2 rfl (by decide) rfl (credit_slice xM) ?_
  refine st_end X K c 0 1 rfl (by decide) rfl (credit_slice xM) ?_
  refine st_end X K c 0 3 rfl (by decide) rfl (credit_slice xM) ?_
  refine st_end X K c 1 0 rfl (by decide) rfl (credit_rs 0 0) ?_
  exact st_ret X K c rfl rfl rfl rfl rfl H

theorem part28_steps {R : PUnit → sProp 𝕄}
    (H : Sts X K c 24 (eSrc X c 0 2) (eSrc X c 1 2) (eSrc X c 2 2) (eSrc X c 3 2) ⊢ R ⟨⟩) :
    Sts X K c 24 (eSrc X c 0 2) (eSrc X c 1 1) (eSrc X c 2 1) (eSrc X c 3 1)
      ⊢ wpc c (k0_part28_skel (F := F) xM h0 oM h1 (Memref.whole cc0_scratch0) h2 (Memref.whole cc0_scratch1) h3 cc0_scratch2 cc0_scratch3 ) R := by
  unfold k0_part28_skel
  refine st_end X K c 1 2 rfl (by decide) rfl (credit_rs 0 2) ?_
  refine st_end X K c 1 1 rfl (by decide) rfl (credit_rs 0 1) ?_
  refine st_end X K c 1 3 rfl (by decide) rfl (credit_rs 0 3) ?_
  exact st_ret X K c rfl rfl rfl rfl rfl H

theorem part29_steps {R : PUnit → sProp 𝕄}
    (H : Sts X K c 24 (eSrc X c 0 3) (eSrc X c 1 3) (eSrc X c 2 3) (eSrc X c 3 3) ⊢ R ⟨⟩) :
    Sts X K c 24 (eSrc X c 0 2) (eSrc X c 1 2) (eSrc X c 2 2) (eSrc X c 3 2)
      ⊢ wpc c (k0_part29_skel (F := F) xM h0 oM h1 (Memref.whole cc0_scratch0) h2 (Memref.whole cc0_scratch1) h3 cc0_scratch2 cc0_scratch3 c) R := by
  unfold k0_part29_skel
  refine st_end X K c 2 0 rfl (by decide) rfl (credit_rs 1 0) ?_
  refine st_end X K c 2 2 rfl (by decide) rfl (credit_rs 1 2) ?_
  refine st_end X K c 2 1 rfl (by decide) rfl (credit_rs 1 1) ?_
  refine st_end X K c 2 3 rfl (by decide) rfl (credit_rs 1 3) ?_
  exact st_ret X K c rfl rfl rfl rfl rfl H

theorem part30_steps {R : PUnit → sProp 𝕄}
    (H : Sts X K c 24 (eSrc X c 0 5) (eSrc X c 1 4) (eSrc X c 2 5) (eSrc X c 3 4) ⊢ R ⟨⟩) :
    Sts X K c 24 (eSrc X c 0 3) (eSrc X c 1 3) (eSrc X c 2 3) (eSrc X c 3 3)
      ⊢ wpc c (k0_part30_skel (F := F) xM h0 oM h1 (Memref.whole cc0_scratch0) h2 (Memref.whole cc0_scratch1) h3 cc0_scratch2 cc0_scratch3 c) R := by
  unfold k0_part30_skel
  refine st_end X K c 3 0 rfl (by decide) rfl (credit_slice oM) ?_
  refine st_end X K c 3 2 rfl (by decide) rfl (credit_slice oM) ?_
  refine st_end X K c 3 1 rfl (by decide) rfl (credit_slice oM) ?_
  refine st_end X K c 3 3 rfl (by decide) rfl (credit_slice oM) ?_
  refine st_end X K c 4 0 rfl (by decide) rfl (credit_slice oM) ?_
  refine st_end X K c 4 2 rfl (by decide) rfl (credit_slice oM) ?_
  exact st_ret X K c rfl rfl rfl rfl rfl H

end Cert.RingReduce

end
-- ==== Proof.Body.lean ====
/-
# The body of a device

The meeting at the barrier, in which a device lends its landing places to its neighbours and gets theirs, and the whole
body from what a device starts with to what it ends with.
-/
module

public import proofs.«01_k».proof.Proof.Parts
public import proofs.«01_k».proof.Proof.Parts2

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-! ## The start -/

/-- What a lane needs for its transfers besides the places they land in. -/
def sendTok (c : Dev nD) (h : Fin 6) (l : Fin 4) : sProp 𝕄 :=
  iprop(dutyTok ER (sendCell h l c) 0 false ∗ dutyTok ER (recvCell h l (fwd l c)) 0 false ∗ atPos ER (sendCell h l c) 0 ∅ 0)
/-- A lane before the barrier. -/
def laneStart (c : Dev nD) (l : Fin 4) : sProp 𝕄 :=
  iprop((bigSep Finset.univ fun h : Fin 6 => sendTok (F := F) c h l) ∗ (bigSep Finset.univ fun h : Fin 6 => recvTodo (F := F) c h l)
    ∗ xRest X c l ∗ srcB X c l 0 ∗ outB (F := F) c l)

/-- What a device starts with. -/
def Start (K : Dev nD × (Unit ⊕ Slot) → ℕ) (c : Dev nD) : sProp 𝕄 :=
  iprop(records X K ∗ (∃ W, owes (c : Thread nD τ) (O₀ c) W) ∗ dutyTok ER (barCell (fwd 2 c)) 0 false ∗ dutyTok ER (barCell (fwd 0 c)) 0 true
    ∗ atPos ER (barCell c) 0 ∅ 0 ∗ cred (tallyAt (barCell c) () 2)
    ∗ (landings (F := F) (fwd 2 c) 0 ∗ landings (F := F) (fwd 2 c) 1) ∗ (landings (F := F) (fwd 0 c) 2 ∗ landings (F := F) (fwd 0 c) 3)
    ∗ bigSep Finset.univ fun l : Fin 4 => laneStart X c l)

theorem send_start (c : Dev nD) (l : Fin 4) (h : Fin 6) :
    iprop(sendTok (F := F) c h l ∗ blkAny (F := F) (fwd l c) (dstM h.val l c)) ⊢ sendSt (F := F) c l 0 0 h := by
  refine (show _ ⊢ sendTodo (F := F) c h l from ?_).trans
    (Entails.of_eq (show sendTodo (F := F) c h l = sendSt (F := F) c l 0 0 h from (if_neg (Nat.not_lt_zero _)).symm))
  unfold sendTok sendTodo
  iintro ⟨⟨H1, H2, H3⟩, H4⟩
  isplitl [H1]; · iexact H1
  isplitl [H2]; · iexact H2
  isplitl [H4]; · iexact H4
  iexact H3
theorem recv_start (c : Dev nD) (l : Fin 4) (h : Fin 6) : recvTodo (F := F) c h l = recvSt (F := F) c l 0 h := (if_neg (Nat.not_lt_zero _)).symm

theorem lane_start (c : Dev nD) (l : Fin 4) : iprop(laneStart X c l ∗ landings (F := F) c l) ⊢ Lane X c l (pSrc X c l 0) := by
  unfold laneStart landings
  iintro ⟨⟨Ht, Hr, HX, HM⟩, Hl⟩
  ihave Hs := (show iprop((bigSep Finset.univ fun h : Fin 6 => sendTok (F := F) c h l)
      ∗ bigSep Finset.univ fun h : Fin 6 => blkAny (F := F) (fwd l c) (dstM h.val l c)) ⊢ (bigSep Finset.univ fun h : Fin 6 => sendSt (F := F) c l 0 0 h) by
    rw [← bigSep_sep']
    exact bigSep_mono fun h _ => send_start c l h) $$ [Ht Hl]
  · isplitl [Ht]; · iexact Ht
    iexact Hl
  ihave Hr := (show (bigSep Finset.univ fun h : Fin 6 => recvTodo (F := F) c h l) ⊢ (bigSep Finset.univ fun h : Fin 6 => recvSt (F := F) c l 0 h) from
    bigSep_mono fun h _ => Entails.of_eq (recv_start c l h)) $$ Hr
  iapply (show iprop((bigSep Finset.univ fun h : Fin 6 => sendSt (F := F) c l 0 0 h) ∗ (bigSep Finset.univ fun h : Fin 6 => recvSt (F := F) c l 0 h)
    ∗ xRest X c l ∗ srcB X c l 0 ∗ outB (F := F) c l) ⊢ Lane X c l (pSrc X c l 0) from Entails.refl _)
  isplitl [Hs]; · iexact Hs
  isplitl [Hr]; · iexact Hr
  isplitl [HX]; · iexact HX
  iexact HM

/-- The lanes once the places to land in have come. -/
theorem lanes_start (c : Dev nD) :
    iprop((bigSep Finset.univ fun l : Fin 4 => laneStart X c l)
      ∗ (landings (F := F) c 0 ∗ landings (F := F) c 1) ∗ (landings (F := F) c 2 ∗ landings (F := F) c 3))
      ⊢ bigSep Finset.univ fun l : Fin 4 => Lane X c l ((![pSrc X c 0 0, pSrc X c 1 0, pSrc X c 2 0, pSrc X c 3 0] : Fin 4 → LP F) l) := by
  have e : (fun l : Fin 4 => Lane X c l ((![pSrc X c 0 0, pSrc X c 1 0, pSrc X c 2 0, pSrc X c 3 0] : Fin 4 → LP F) l))
      = fun l => Lane X c l (pSrc X c l 0) := by funext l; fin_cases l <;> rfl
  rw [e]
  have g : iprop((landings (F := F) c 0 ∗ landings (F := F) c 1) ∗ (landings (F := F) c 2 ∗ landings (F := F) c 3))
      ⊢ (bigSep Finset.univ fun l : Fin 4 => landings (F := F) c l) := by
    rw [bigSep_univ_eq_bigSepL [0, 1, 2, 3] (by decide) (by decide), bigSepL_cons_cons, bigSepL_cons_cons, bigSepL_cons_cons, bigSepL_singleton]
    show _ ⊢ iprop(landings (F := F) c 0 ∗ landings (F := F) c 1 ∗ landings (F := F) c 2 ∗ landings (F := F) c 3)
    iintro ⟨⟨H0, H1⟩, H2, H3⟩
    isplitl [H0]; · iexact H0
    isplitl [H1]; · iexact H1
    isplitl [H2]; · iexact H2
    iexact H3
  refine (sep_mono_right g).trans ?_
  show iprop(_ ∗ _) ⊢ _
  rw [← bigSep_sep']
  exact bigSep_mono fun l _ => lane_start X c l

variable (K : Dev nD × (Unit ⊕ Slot) → ℕ) (c : Dev nD)
  {h0 : (xM).IsWhole} {h1 : (oM).IsWhole} {h2 : (Memref.whole cc0_scratch0 : Memref sig .tc .vmem S3x512x512 .f32).IsWhole}
  {h3 : (Memref.whole cc0_scratch1 : Memref sig .tc .vmem S3x512x512 .f32).IsWhole}

theorem dev1 : (⟨k0_dev1 c, Facts₀.k0_dev1_lt c⟩ : Dev nD) = fwd 2 c := by revert c; decide +kernel
theorem dev2 : (⟨k0_dev2 c, Facts₀.k0_dev2_lt c⟩ : Dev nD) = fwd 0 c := by revert c; decide +kernel

theorem part1_steps {R : (Σ' (_ : Dev nD) (_ : BitVec 32) (_ : BitVec 32), BitVec 32) → sProp 𝕄}
    (H : ∀ a b d, Sts X K c 0 (pSrc X c 0 0) (pSrc X c 1 0) (pSrc X c 2 0) (pSrc X c 3 0) ⊢ R ⟨c, a, b, d⟩) :
    Start X K c
      ⊢ wpc c (k0_part1_skel (F := F) xM h0 oM h1 (Memref.whole cc0_scratch0) h2 (Memref.whole cc0_scratch1) h3 cc0_scratch2 cc0_scratch3) R := by
  unfold k0_part1_skel Start
  simp only [semSignalWord, semWaitWord, Prog.lift, Prog.bind_op, Prog.bind_ret, Prog.pure_eq_ret, wp_deviceId]
  simp only [dev1 c, dev2 c]
  iintro ⟨#Hrec, ⟨%W, HO⟩, Ht2, Ht0, Hat, Hcr, Hl01, Hl23, HL⟩
  -- the signal to the previous device, lending it the landings of its lanes 0 and 1
  iapply (Rounds.wp_signal 𝒱₀ ER (ringRd X) (c : Thread nD τ) none (dst := (fwd 2 c : Thread nD τ)) (κ := K (fwd 2 c, .inl ()))
      (d := false) (by rw [duties_bar]; exact Finset.mem_univ _) ((amount_bar X (fwd 2 c) false).trans (by decide)) () (O₁ c) rfl) $$ [HO Ht2 Hl01]
  · isplitr; · iapply (records_inv X K (fwd 2 c, .inl ())); iexact Hrec
    isplitl [HO]; · iexact HO
    isplitl [Ht2]; · iexact Ht2
    isplitl [Hl01]
    · iapply (show iprop(landings (F := F) (fwd 2 c) 0 ∗ landings (F := F) (fwd 2 c) 1) ⊢ (ringRd X).payload (barCell (fwd 2 c)) 0 false from Entails.refl _)
      iexact Hl01
    iapply (records_reached X K (fwd 2 c, .inl ())); iexact Hrec
  iintro HO
  -- the signal to the next device, lending it the landings of its lanes 2 and 3
  iapply (Rounds.wp_signal 𝒱₀ ER (ringRd X) (c : Thread nD τ) none (dst := (fwd 0 c : Thread nD τ)) (κ := K (fwd 0 c, .inl ()))
      (d := true) (by rw [duties_bar]; exact Finset.mem_univ _) ((amount_bar X (fwd 0 c) true).trans (by decide)) () (owedL c order) rfl) $$ [HO Ht0 Hl23]
  · isplitr; · iapply (records_inv X K (fwd 0 c, .inl ())); iexact Hrec
    isplitl [HO]; · iexact HO
    isplitl [Ht0]; · iexact Ht0
    isplitl [Hl23]
    · iapply (show iprop(landings (F := F) (fwd 0 c) 2 ∗ landings (F := F) (fwd 0 c) 3) ⊢ (ringRd X).payload (barCell (fwd 0 c)) 0 true from Entails.refl _)
      iexact Hl23
    iapply (records_reached X K (fwd 0 c, .inl ())); iexact Hrec
  iintro HO
  -- the wait for both neighbours: their landings come with it
  iapply (Rounds.wp_wait_rest_token 𝒱₀ ER (ringRd X) (c : Thread nD τ) none (κ := K (c, .inl ()))
      (wpE_semWait_eq 𝒱₀ (c : Thread nD τ) none Set.univ) (Set.mem_univ _) () (O := owedL c order) (W := W) (R := 0) (m := 0) (T := ∅)
      (by rw [expect_bar]; decide)) $$ [Hcr HO Hat]
  · isplitr; · iapply (records_inv X K (c, .inl ())); iexact Hrec
    isplitl [Hcr]; · iexact Hcr
    isplitl [HO]; · iexact HO
    isplitr
    · iapply (mayWait_list c (.reg barS) order (by decide))
      iapply (records_levels X K); iexact Hrec
    iexact Hat
  iintro ⟨HO, Hat, -, Hpay⟩
  ihave Hp := (Entails.of_eq (rest_bar X c)) $$ Hpay
  imod (Rounds.cell_close ER (ringRd X) (Set.mem_univ (K (c, .inl ()))) (fun h => h) (R := 0 + 1) (duties_later X (barCell c))) $$ [Hat] with Hz
  · isplitr; · iapply (records_inv X K (c, .inl ())); iexact Hrec
    iexact Hat
  ihave HL := (lanes_start X c) $$ [HL Hp]
  · isplitl [HL]; · iexact HL
    iexact Hp
  rw [wp_ret]
  imodintro
  iapply (H _ _ _)
  unfold Sts St
  isplitr; · iexact Hrec
  isplitl [Hz]; · iexact Hz
  isplitl [HO]; · iexists _; iexact HO
  iexact HL

/-! ## The whole -/

theorem wpc_bind {α β : Type} {e : Prog (TpuEff nD τ sig (Elt F) Λ₀ .tc) α} {k : α → Prog (TpuEff nD τ sig (Elt F) Λ₀ .tc) β} {Q : β → sProp 𝕄} {P : sProp 𝕄}
    (H : P ⊢ wpc c e fun v => wpc c (k v) Q) : P ⊢ wpc c (e >>= k) Q := by
  unfold wpc at *
  rw [wp_bind]; exact H

/-- The whole body: from what a device starts with to all its transfers ended and all blocks in. -/
theorem body_steps {Q : PUnit → sProp 𝕄}
    (H : Sts X K c 24 (eSrc X c 0 6) (eSrc X c 1 6) (eSrc X c 2 6) (eSrc X c 3 6) ⊢ Q ⟨⟩) :
    Start X K c
      ⊢ wpc c (cc0_body_skel (F := F) xM h0 oM h1 (Memref.whole cc0_scratch0) h2 (Memref.whole cc0_scratch1) h3 cc0_scratch2 cc0_scratch3) Q := by
  unfold cc0_body_skel
  refine wpc_bind c ?_
  rw [k0_part31_eq_skeleton]
  unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  refine wpc_bind c ?_
  refine part1_steps X K c fun a b d => ?_
  refine wpc_bind c ?_
  refine part2_steps X K c ?_
  refine wpc_bind c ?_
  refine part3_steps X K c fun r => ?_
  refine wpc_bind c ?_
  refine part4_steps X K c fun r => ?_
  refine wpc_bind c ?_
  refine part5_steps X K c fun r => ?_
  refine wpc_bind c ?_
  refine part6_steps X K c ?_
  refine wpc_bind c ?_
  refine part7_steps X K c ?_
  refine wpc_bind c ?_
  refine part8_steps X K c fun r => ?_
  refine wpc_bind c ?_
  refine part9_steps X K c ?_
  refine wpc_bind c ?_
  refine part10_steps X K c ?_
  refine wpc_bind c ?_
  refine part11_steps X K c ?_
  refine wpc_bind c ?_
  refine part12_steps X K c fun r => ?_
  refine wpc_bind c ?_
  refine part13_steps X K c ?_
  refine wpc_bind c ?_
  refine part14_steps X K c ?_
  refine wpc_bind c ?_
  refine part15_steps X K c fun r => ?_
  refine wpc_bind c ?_
  refine part16_steps X K c fun r => ?_
  refine wpc_bind c ?_
  refine part17_steps X K c fun r => ?_
  refine wpc_bind c ?_
  refine part18_steps X K c ?_
  refine wpc_bind c ?_
  refine part19_steps X K c fun r => ?_
  refine wpc_bind c ?_
  refine part20_steps X K c fun r => ?_
  refine wpc_bind c ?_
  refine part21_steps X K c fun r => ?_
  refine wpc_bind c ?_
  refine part22_steps X K c fun r => ?_
  refine wpc_bind c ?_
  refine part23_steps X K c fun r => ?_
  refine wpc_bind c ?_
  refine part24_steps X K c ?_
  refine wpc_bind c ?_
  refine part25_steps X K c ?_
  refine wpc_bind c ?_
  refine part26_steps X K c ?_
  refine wpc_bind c ?_
  refine part27_steps X K c ?_
  refine wpc_bind c ?_
  refine part28_steps X K c ?_
  refine wpc_bind c ?_
  refine part29_steps X K c ?_
  refine wpc_bind c ?_
  refine part30_steps X K c ?_
  refine st_end X K c 4 1 rfl (by decide) rfl (credit_slice oM) ?_
  refine st_end X K c 4 3 rfl (by decide) rfl (credit_slice oM) ?_
  refine st_end X K c 5 0 rfl (by decide) rfl (credit_slice oM) ?_
  refine st_ret X K c (T' := order.drop 24) (p' := ![eSrc X c 0 6, eSrc X c 1 5, eSrc X c 2 5, eSrc X c 3 5]) rfl rfl rfl rfl rfl ?_
  refine st_end X K c 5 2 rfl (by decide) rfl (credit_slice oM) ?_
  refine st_end X K c 5 1 rfl (by decide) rfl (credit_slice oM) ?_
  refine st_end X K c 5 3 rfl (by decide) rfl (credit_slice oM) ?_
  exact st_ret X K c rfl rfl rfl rfl rfl H

end Cert.RingReduce

end
-- ==== Proof.Deal.lean ====
/-
# What the launch deals out

The tokens of the duties, dealt to the devices that pay them, the cells' invariants, and the credits of what all devices owe
at launch.
-/
module

public import proofs.«01_k».proof.Proof.Pieces
public import proofs.«01_k».proof.Proof.Body

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → (cc0_stg0_0 : Ref sig .tc).ty.Contents (Elt F))

/-- The shift of a lane as a permutation of the devices. -/
def shift (l : Fin 4) : Dev nD ≃ Dev nD := ⟨fwd l, bwd l, bwd_fwd l, fwd_bwd l⟩

/-- Over all own semaphores: the send ones lane by lane, then the receive ones. -/
theorem over_slots (Φ : Slot → sProp 𝕄) : bigSep Finset.univ Φ
    = iprop((bigSep Finset.univ fun l : Fin 4 => bigSep Finset.univ fun h : Fin 6 => Φ (false, h, l))
      ∗ bigSep Finset.univ fun l : Fin 4 => bigSep Finset.univ fun h : Fin 6 => Φ (true, h, l)) := by
  rw [bigSep_univ_prod, bigSep_univ_eq_bigSepL [false, true] (by decide) (by decide), bigSepL_cons_cons, bigSepL_singleton,
    bigSep_univ_prod, bigSep_univ_prod, bigSep_univ_comm, bigSep_univ_comm (fun (h : Fin 6) (l : Fin 4) => Φ (true, h, l))]
  rfl
/-- Over all of a device's cells: the barrier, then the own semaphores. -/
theorem over_cells (Φ : Unit ⊕ Slot → sProp 𝕄) : bigSep Finset.univ Φ
    = iprop(Φ (.inl ()) ∗ bigSep Finset.univ fun j : Slot => Φ (.inr j)) := by
  rw [bigSep_univ_sum, show (Finset.univ : Finset Unit) = {()} from rfl, bigSep_singleton]; rfl

/-! ## Tokens -/

def ringCells : Finset (GSem nD τ sig) := Finset.univ.map ⟨kcell, kcell_injective⟩

/-- The duties as minted: a device's barrier's two and the one of each of its own semaphores. -/
abbrev tokOf (cj : Dev nD × (Bool ⊕ Slot)) : GSem nD τ sig × ℕ × Bool := match cj.2 with
  | .inl b => (barCell cj.1, 0, b) | .inr j => (kcell (cj.1, .inr j), 0, false)
theorem tokOf_injective : Function.Injective (tokOf : Dev nD × (Bool ⊕ Slot) → GSem nD τ sig × ℕ × Bool) := by
  rintro ⟨c, j | j⟩ ⟨c', j' | j'⟩ h
  · have h1 : c = c' := congrArg (fun x : GSem nD τ sig × ℕ × Bool => x.1.1.1) h
    have h2 : j = j' := congrArg (fun x : GSem nD τ sig × ℕ × Bool => x.2.2) h
    rw [h1, h2]
  · cases congrArg (fun x : GSem nD τ sig × ℕ × Bool => x.1.2) h
  · cases congrArg (fun x : GSem nD τ sig × ℕ × Bool => x.1.2) h
  · have h1 := kcell_injective (congrArg Prod.fst h)
    cases h1; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

abbrev sendToks (c : Dev nD) (l : Fin 4) : sProp 𝕄 := bigSep Finset.univ fun h : Fin 6 => dutyTok ER (sendCell h l c) 0 false
abbrev recvToks (c : Dev nD) (l : Fin 4) : sProp 𝕄 := bigSep Finset.univ fun h : Fin 6 => dutyTok ER (recvCell h l c) 0 false

/-- The tokens of the duties of device `c`'s own cells. -/
def toks (c : Dev nD) : sProp 𝕄 :=
  iprop(dutyTok ER (barCell c) 0 false ∗ dutyTok ER (barCell c) 0 true
    ∗ (bigSep Finset.univ fun l : Fin 4 => sendToks (F := F) c l) ∗ bigSep Finset.univ fun l : Fin 4 => recvToks (F := F) c l)
/-- The tokens of the duties that device `c` pays. -/
def payToks (c : Dev nD) : sProp 𝕄 :=
  iprop(dutyTok ER (barCell (fwd 2 c)) 0 false ∗ dutyTok ER (barCell (fwd 0 c)) 0 true
    ∗ (bigSep Finset.univ fun l : Fin 4 => sendToks (F := F) c l) ∗ bigSep Finset.univ fun l : Fin 4 => recvToks (F := F) (fwd l c) l)

theorem toks_around : (bigSep Finset.univ fun c : Dev nD => (toks c : sProp 𝕄)) ⊢ bigSep Finset.univ fun c : Dev nD => payToks c := by
  have e : (bigSep Finset.univ fun c : Dev nD => bigSep Finset.univ fun l : Fin 4 => recvToks (F := F) c l)
      = bigSep Finset.univ fun c : Dev nD => bigSep Finset.univ fun l : Fin 4 => recvToks (F := F) (fwd l c) l := by
    rw [bigSep_univ_comm, bigSep_univ_comm (fun (c : Dev nD) (l : Fin 4) => recvToks (F := F) (fwd l c) l)]
    exact bigSep_congr fun l _ => bigSep_univ_equiv (shift l) (fun c : Dev nD => recvToks (F := F) c l)
  unfold toks payToks
  rw [bigSep_sep', bigSep_sep', bigSep_sep', bigSep_sep', bigSep_sep', bigSep_sep', e,
    bigSep_univ_equiv (shift 2) (fun c : Dev nD => (dutyTok ER (barCell c) 0 false : sProp 𝕄)),
    bigSep_univ_equiv (shift 0) (fun c : Dev nD => (dutyTok ER (barCell c) 0 true : sProp 𝕄))]
  exact Entails.refl _

/-! ## The launch element, the invariants -/

abbrev posAt (c : Dev nD) (k : Unit ⊕ Slot) : sProp 𝕄 := atPos ER (kcell (c, k)) 0 ∅ 0
abbrev invAt (c : Dev nD) (k : Unit ⊕ Slot) : sProp 𝕄 := iprop(∃ κ : ℕ, cellInv ER (ringRd X) κ (kcell (c, k)))

/-- What the launch element deals device `c`. -/
def G (c : Dev nD) : sProp 𝕄 :=
  iprop((bigSep Finset.univ fun k : Unit ⊕ Slot => roundState ER (ringRd X) (kcell (c, k)) 0)
    ∗ (bigSep Finset.univ fun k : Unit ⊕ Slot => iprop(posAt (F := F) c k ∗ reached ER (kcell (c, k)) 0)) ∗ toks c)

def known (K : Dev nD × (Unit ⊕ Slot) → ℕ) : sProp 𝕄 :=
  iprop((bigSep Finset.univ fun ck : Dev nD × (Unit ⊕ Slot) => cellInv ER (ringRd X) (K ck) (kcell ck))
    ∗ bigSep Finset.univ fun ck : Dev nD × (Unit ⊕ Slot) => reached ER (kcell ck) 0)
instance known_persistent (K : Dev nD × (Unit ⊕ Slot) → ℕ) : BI.Persistent (known X K) := by unfold known; infer_instance

/-- A device's positions and the tokens of the duties it pays. -/
def linear (c : Dev nD) : sProp 𝕄 := iprop((bigSep Finset.univ fun k : Unit ⊕ Slot => posAt (F := F) c k) ∗ payToks c)
/-- What the global step makes of what the launch deals. -/
def G' (c : Dev nD) : sProp 𝕄 := iprop(∃ K, known X K ∗ linear c)

theorem fund_ring : BI.own (ER (initOf ringCells ringToks)) ⊢ (|==> bigSep Finset.univ (G X) : sProp 𝕄) := by
  have hX (Φ : GSem nD τ sig → sProp 𝕄) : bigSep ringCells Φ = bigSep Finset.univ fun c : Dev nD => bigSep Finset.univ fun k : Unit ⊕ Slot => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_eq_bigSepL [false, true] (by decide) (by decide), bigSepL_cons_cons, bigSepL_singleton, over_slots]
    unfold toks
    exact BI.equiv_iff.mp ⟨BI.sep_assoc, BI.sep_assoc'⟩
  iintro HX
  imod (Rounds.fund ER (ringRd X) ringCells ringToks) $$ HX with ⟨Hst, Hr, Hat, Htok⟩
  imodintro
  ihave Hst' := (Entails.of_eq (hX fun g => roundState ER (ringRd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Unit ⊕ Slot => semVal (kcell (c, k)) 0 : sProp 𝕄) := by
  rw [unscopedSems0_eq, over_cells]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => invAt X c k)
          ∗ (bigSep Finset.univ fun k => iprop(posAt (F := F) c k ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Unit ⊕ Slot => semVal (kcell (c, k)) 0) ∗ bigSep Finset.univ fun k : Unit ⊕ Slot => roundState ER (ringRd X) (kcell (c, k)) 0)
      ⊢ (|={Set.univ}=> bigSep Finset.univ fun k => invAt X c k : sProp 𝕄) from by
        rw [← bigSep_sep']
        exact (bigSep_mono fun k _ => (Rounds.body_intro ER (ringRd X) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × (Unit ⊕ Slot) → ℕ) (c : Dev nD) : iprop(known X K ∗ linear c) ⊢ G' X c := by
  unfold G'; iintro H; iexists K; iexact H

theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => invAt X c k)
          ∗ (bigSep Finset.univ fun k => iprop(posAt (F := F) c k ∗ reached ER (kcell (c, k)) 0)) ∗ toks c) : sProp 𝕄)
      ⊢ bigSep Finset.univ (G' X) := by
  rw [bigSep_sep', bigSep_sep', ← bigSep_univ_prod (fun ck : Dev nD × (Unit ⊕ Slot) => iprop(∃ κ : ℕ, cellInv ER (ringRd X) κ (kcell ck))),
    bigSep_congr (s := Finset.univ) (fun (c : Dev nD) _ => bigSep_sep' Finset.univ (fun k : Unit ⊕ Slot => posAt (F := F) c k) (fun k => reached ER (kcell (c, k)) 0)),
    bigSep_sep', ← bigSep_univ_prod (fun ck : Dev nD × (Unit ⊕ Slot) => (reached ER (kcell ck) 0 : sProp 𝕄))]
  iintro ⟨HI, ⟨Hat, #HR⟩, Htok⟩
  ihave HK := (BI.bigSep_exists_pi Finset.univ (fun (ck : Dev nD × (Unit ⊕ Slot)) (κ : ℕ) => (cellInv ER (ringRd X) κ (kcell ck) : sProp 𝕄))) $$ HI
  icases HK with ⟨%K, #HI⟩
  ihave Htk := (toks_around (F := F)) $$ Htok
  iapply (with_known (R := known X K) fun c _ => ghost_intro X K c)
  isplitr
  · unfold known; isplitl; · iexact HI
    iexact HR
  · iapply (Entails.of_eq (bigSep_sep' Finset.univ (fun c : Dev nD => bigSep Finset.univ fun k : Unit ⊕ Slot => posAt (F := F) c k) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The launch credit -/

theorem bar_eq_iff {a b : Dev nD} : barCell a = barCell b ↔ a = b :=
  ⟨fun h => congrArg (fun g : GSem nD τ sig => g.1.1) h, fun h => h ▸ rfl⟩
theorem recv_eq_iff {h h' : Fin 6} {l l' : Fin 4} {a b : Dev nD} : recvCell h l a = recvCell h' l' b ↔ (h, l) = (h', l') ∧ a = b :=
  ⟨fun e => by
    have e := kcell_injective (show kcell (a, .inr (true, h, l)) = kcell (b, .inr (true, h', l')) from e)
    cases e; exact ⟨rfl, rfl⟩,
  fun ⟨e, e'⟩ => by cases e; cases e'; rfl⟩
theorem recv_ne_bar {h : Fin 6} {l : Fin 4} {a b : Dev nD} : recvCell h l a ≠ barCell b :=
  fun e => by cases congrArg Prod.snd e

theorem order_count (i : Fin 6 × Fin 4) : order.count i = 1 := by revert i; decide

/-- What is owed on a receive cell for a list of transfers: that of its own transfer, as often as the list names it. -/
theorem owedL_recv (d c : Dev nD) (h : Fin 6) (l : Fin 4) (T : List (Fin 6 × Fin 4)) :
    owedL d T (recvCell h l c) () = T.count (h, l) * if d = bwd l c then N else 0 := by
  induction T with
  | nil => rw [List.count_nil, Nat.zero_mul]; rfl
  | cons i T ih =>
    rw [owedL, Pi.add_apply, Finsupp.add_apply, ih, tallyAt_apply, List.count_cons, Nat.add_mul]
    congr 1
    by_cases hi : (h, l) = i
    · subst hi
      rw [if_pos (beq_self_eq_true _), Nat.one_mul]
      by_cases hd : d = bwd l c
      · subst hd; rw [fwd_bwd, if_pos ⟨rfl, rfl⟩, if_pos rfl]
      · rw [if_neg hd, if_neg fun e => hd (by rw [(recv_eq_iff.mp e.1).2, bwd_fwd])]
    · rw [if_neg fun e => hi (recv_eq_iff.mp e.1).1, if_neg (fun e => hi (beq_iff_eq.mp e).symm), Nat.zero_mul]
theorem owedL_bar (d c : Dev nD) (T : List (Fin 6 × Fin 4)) : owedL d T (barCell c) () = 0 := by
  refine Nat.eq_zero_of_not_pos fun h => ?_
  obtain ⟨i, -, e⟩ := owedL_pos h
  exact recv_ne_bar e.symm

theorem owed_recv (d c : Dev nD) (h : Fin 6) (l : Fin 4) : O₀ d (recvCell h l c) () = if d = bwd l c then N else 0 := by
  unfold O₀ O₁
  rw [Pi.add_apply, Finsupp.add_apply, Pi.add_apply, Finsupp.add_apply, tallyAt_ne_cell recv_ne_bar, tallyAt_ne_cell recv_ne_bar,
    Finsupp.zero_apply, Nat.add_zero, Nat.add_zero, owedL_recv, order_count, Nat.one_mul]
theorem tally_bar (l : Fin 4) (d c : Dev nD) : tallyAt (Ix := Unit) (barCell (fwd l d)) () 1 (barCell c) () = if d = bwd l c then 1 else 0 := by
  rw [tallyAt_apply]
  by_cases hd : d = bwd l c
  · subst hd; rw [fwd_bwd, if_pos ⟨rfl, rfl⟩, if_pos rfl]
  · rw [if_neg hd, if_neg fun e => hd (by rw [bar_eq_iff.mp e.1, bwd_fwd])]
theorem owed_bar (d c : Dev nD) : O₀ d (barCell c) () = (if d = bwd 0 c then 1 else 0) + if d = bwd 2 c then 1 else 0 := by
  unfold O₀ O₁
  rw [Pi.add_apply, Finsupp.add_apply, Pi.add_apply, Finsupp.add_apply, owedL_bar, Nat.zero_add, tally_bar, tally_bar]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (bwd 0 c) fun _ => 1, Finset.sum_ite_eq' Finset.univ (bwd 2 c) fun _ => 1, if_pos (Finset.mem_univ _), if_pos (Finset.mem_univ _)]
theorem launch_recv (c : Dev nD) (h : Fin 6) (l : Fin 4) :
    tallyOn (recvCell h l c) (launchCredit (Pipeline.owing O₀) 0 (recvCell h l c)) = (tallyAt (recvCell h l c) () N : CellTallies nD τ sig Unit) := by
  unfold tallyAt; refine congrArg _ (Finsupp.ext fun u => ?_); cases u
  rw [Pipeline.launchCredit_owing, Finsupp.single_eq_same, Finset.sum_congr rfl fun d _ => owed_recv d c h l, Finset.sum_ite_eq' Finset.univ (bwd l c) fun _ => N,
    if_pos (Finset.mem_univ _)]

def recvEmb : Fin 4 × Fin 6 ↪ SemLoc sig := ⟨fun p => osem (true, p.2, p.1), fun p p' h => by
  have h := osem_injective h
  exact Prod.ext (congrArg (fun j : Slot => j.2.2) h) (congrArg (fun j : Slot => j.2.1) h)⟩

theorem creds (c : Dev nD) :
    (Pipeline.launchCred O₀ c : sProp 𝕄) ⊢ iprop(cred (tallyAt (barCell c) () 2)
      ∗ bigSep Finset.univ fun l : Fin 4 => bigSep Finset.univ fun h : Fin 6 => cred (tallyAt (recvCell h l c) () N)) := by
  unfold Pipeline.launchCred
  rw [bigSep_univ_at _ (SemLoc.reg barS), launch_bar]
  refine sep_mono_right ?_
  have hs : Finset.univ.map recvEmb ⊆ Finset.univ.erase (SemLoc.reg barS : SemLoc sig) := by
    intro s hs
    obtain ⟨p, -, rfl⟩ := Finset.mem_map.mp hs
    exact Finset.mem_erase.mpr ⟨(fun e => by cases e), Finset.mem_univ _⟩
  refine (bigSep_subset hs).trans ?_
  rw [bigSep_map, bigSep_univ_prod]
  exact bigSep_mono fun l _ => bigSep_mono fun h _ => Entails.of_eq (congrArg cred (launch_recv c h l))

end Cert.RingReduce

end
-- ==== Proof.Launch.lean ====
/-
# The launch and the run

The proof data of the one kernel call, its body obligation from the body's run, and the run of the program on all devices:
it terminates, every device's result holds the same contents, its block of `x` is unchanged and every counter is zero.
-/
module

public import proofs.«01_k».proof.Proof.Deal
public import proofs.«01_k».proof.Proof.Gen.KernelIdeal.Points
public import Idealize.ShloMosaic.Lib.Pipeline.CollectiveSegs

@[expose] public section

noncomputable section

namespace Cert.RingReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- Device `c`'s block of `x` as staged. -/
def xs (c : Dev nD) : (cc0_stg0_0 : Ref sig .tc).ty.Contents (Elt F) :=
  (win0_0.blk (0 : Fin 1)).view.read (Elt F) (m ((c : Thread nD τ).loc main_arg0))

abbrev t₀ : Fin cfg0.N := t0_0

/-- Both landing buffers with some contents. -/
def scr (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
/-- The own semaphores at zero. -/
abbrev own0 (c : Dev nD) : sProp 𝕄 := Pipeline.ownSems0 (Ix := Unit) (Name := ℕ) (U := UU) (Lvl := ℕ) (Val := Elt F) (τ := τ) osem c
/-- The credits of a device's waits that others pay. -/
def crs (c : Dev nD) : sProp 𝕄 :=
  iprop(cred (tallyAt (barCell c) () 2) ∗ bigSep Finset.univ fun l : Fin 4 => bigSep Finset.univ fun h : Fin 6 => cred (tallyAt (recvCell h l c) () N))

/-- What a device's body starts from besides its buffers. -/
def start (c : Dev nD) : sProp 𝕄 := iprop(G' (xs m) c ∗ crs (F := F) c ∗ levAts L lv)
def Φ₀ (c : Dev nD) : sProp 𝕄 := iprop(start m c ∗ scr c)
/-- And what it leaves besides them. -/
def Φ₁ (c : Dev nD) : sProp 𝕄 := iprop(scr c ∗ own0 c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => OUT (xs m)
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body obligation -/

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

variable (X : Dev nD → (cc0_stg0_0 : Ref sig .tc).ty.Contents (Elt F))

/-- The lanes' parts of what a device starts with. -/
theorem lanes_of (c : Dev nD) :
    iprop((bigSep Finset.univ fun l : Fin 4 => sendToks (F := F) c l) ∗ (bigSep Finset.univ fun l : Fin 4 => recvToks (F := F) (fwd l c) l)
      ∗ (bigSep Finset.univ fun l : Fin 4 => bigSep Finset.univ fun h : Fin 6 => atPos ER (sendCell h l c) 0 ∅ 0)
      ∗ (bigSep Finset.univ fun l : Fin 4 => bigSep Finset.univ fun h : Fin 6 => atPos ER (recvCell h l c) 0 ∅ 0)
      ∗ (bigSep Finset.univ fun l : Fin 4 => bigSep Finset.univ fun h : Fin 6 => cred (tallyAt (recvCell h l c) () N))
      ∗ (bigSep Finset.univ fun l : Fin 4 => iprop(srcB X c l 0 ∗ xRest X c l)) ∗ bigSep Finset.univ fun l : Fin 4 => outB (F := F) c l)
      ⊢ bigSep Finset.univ fun l : Fin 4 => laneStart X c l := by
  unfold laneStart sendTok recvTodo
  simp only [bigSep_sep']
  iintro ⟨H1, H2, H3, H4, H5, ⟨H6, H7⟩, H8⟩
  isplitl [H1 H2 H3]
  · isplitl [H1]; · iexact H1
    isplitl [H2]; · iexact H2
    iexact H3
  isplitl [H4 H5]
  · isplitl [H5]; · iexact H5
    iexact H4
  isplitl [H7]; · iexact H7
  isplitl [H6]; · iexact H6
  iexact H8

/-- The places a device lends, by the neighbour it lends them to. -/
theorem lend_of (c : Dev nD) : (bigSep Finset.univ fun l : Fin 4 => landings (F := F) (bwd l c) l)
    ⊢ iprop((landings (F := F) (fwd 2 c) 0 ∗ landings (F := F) (fwd 2 c) 1) ∗ (landings (F := F) (fwd 0 c) 2 ∗ landings (F := F) (fwd 0 c) 3)) := by
  rw [four]
  have e0 : bwd 0 c = fwd 2 c := rfl
  have e1 : bwd 1 c = fwd 2 c := rfl
  have e2 : bwd 2 c = fwd 0 c := rfl
  have e3 : bwd 3 c = fwd 0 c := rfl
  rw [e0, e1, e2, e3]
  iintro ⟨H0, H1, H2, H3⟩
  isplitl [H0 H1]
  · isplitl [H0] <;> iassumption
  · isplitl [H2] <;> iassumption

/-- The result's and the landing buffers' blocks: each lane's own place, and those to be lent. -/
theorem places_of (c : Dev nD) (f1 : Buf (Elt F) ((c : Thread nD τ).loc cc0_stg1_0)) :
    iprop((((c : Thread nD τ).loc cc0_stg1_0) ↦{fullShare} f1) ∗ scr (F := F) c)
      ⊢ iprop((bigSep Finset.univ fun l : Fin 4 => outB (F := F) c l) ∗ bigSep Finset.univ fun l : Fin 4 => landings (F := F) (bwd l c) l) := by
  refine (show _ ⊢ iprop((bigSep Finset.univ fun l : Fin 4 => bigSep Finset.univ fun q : Fin 4 => blkAny (F := F) c (oP q l))
      ∗ bigSep Finset.univ fun l : Fin 4 => rsAny (F := F) c l) from BIClass.sep_mono (out_split c f1) (rs_split c)).trans ?_
  rw [← bigSep_sep', ← bigSep_sep']
  exact bigSep_mono fun l _ => lane_lend c l

theorem x_of (c : Dev nD) : (((c : Thread nD τ).loc cc0_stg0_0) ↦{fullShare} X c : sProp 𝕄)
    ⊢ bigSep Finset.univ fun l : Fin 4 => iprop(srcB X c l 0 ∗ xRest X c l) :=
  (x_split X c).trans (bigSep_mono fun l _ => Entails.of_eq (lane_x X c l))

/-- A device's positions, lane by lane. -/
theorem pos_of (c : Dev nD) : (bigSep Finset.univ fun k : Unit ⊕ Slot => posAt (F := F) c k)
    = iprop(atPos ER (barCell c) 0 ∅ 0 ∗ (bigSep Finset.univ fun l : Fin 4 => bigSep Finset.univ fun h : Fin 6 => atPos ER (sendCell h l c) 0 ∅ 0)
      ∗ bigSep Finset.univ fun l : Fin 4 => bigSep Finset.univ fun h : Fin 6 => atPos ER (recvCell h l c) 0 ∅ 0) := by
  rw [over_cells, over_slots]

/-- What the launch deals a device and its buffers, as the body starts from them. -/
theorem start_of (K : Dev nD × (Unit ⊕ Slot) → ℕ) (c : Dev nD) (f1 : Buf (Elt F) ((c : Thread nD τ).loc cc0_stg1_0)) :
    iprop(known X K ∗ linear c ∗ crs (F := F) c ∗ levAts L lv ∗ scr c ∗ (∃ W, owes (c : Thread nD τ) (O₀ c) W)
      ∗ (((c : Thread nD τ).loc cc0_stg0_0) ↦{fullShare} X c) ∗ (((c : Thread nD τ).loc cc0_stg1_0) ↦{fullShare} f1))
      ⊢ Start X K c := by
  unfold linear crs payToks Start
  rw [pos_of]
  iintro ⟨Hk, ⟨⟨Hpb, Hps, Hpr⟩, Ht2, Ht0, Hts, Htr⟩, ⟨Hcb, Hcr⟩, Hlev, Hscr, HO, Hx, Ho⟩
  ihave Hp := (places_of c f1) $$ [Ho Hscr]
  · isplitl [Ho]; · iexact Ho
    iexact Hscr
  icases Hp with ⟨Ho, Hl⟩
  ihave Hl := (lend_of c) $$ Hl
  icases Hl with ⟨Hl0, Hl2⟩
  ihave Hx := (x_of X c) $$ Hx
  isplitl [Hk Hlev]
  · unfold known records
    icases Hk with ⟨H1, H2⟩
    isplitl [H1]; · iexact H1
    isplitl [H2]; · iexact H2
    iexact Hlev
  isplitl [HO]; · iexact HO
  isplitl [Ht2]; · iexact Ht2
  isplitl [Ht0]; · iexact Ht0
  isplitl [Hpb]; · iexact Hpb
  isplitl [Hcb]; · iexact Hcb
  isplitl [Hl0]; · iexact Hl0
  isplitl [Hl2]; · iexact Hl2
  iapply (lanes_of X c)
  isplitl [Hts]; · iexact Hts
  isplitl [Htr]; · iexact Htr
  isplitl [Hps]; · iexact Hps
  isplitl [Hpr]; · iexact Hpr
  isplitl [Hcr]; · iexact Hcr
  isplitl [Hx]; · iexact Hx
  iexact Ho

/-- A lane at the end: its semaphores at zero, all its blocks of `x`, of the result and of its landing buffer. -/
theorem lane_close (c : Dev nD) (l : Fin 4) : Lane X c l (eSrc X c l 6)
    ⊢ iprop((bigSep Finset.univ fun h : Fin 6 => semVal (sendCell h l c) 0) ∗ (bigSep Finset.univ fun h : Fin 6 => semVal (recvCell h l c) 0)
      ∗ (bigSep Finset.univ fun q : Fin 4 => blk c (xP q l) (xblk X c q l)) ∗ (bigSep Finset.univ fun q : Fin 4 => blk c (oP q l) (FIN X q l))
      ∗ rsAny (F := F) c l) := by
  have hs : (bigSep Finset.univ fun h : Fin 6 => sendSt (F := F) c l 6 6 h) = bigSep Finset.univ fun h : Fin 6 => semVal (sendCell h l c) 0 :=
    bigSep_congr fun h _ => by unfold sendSt; rw [if_pos h.isLt, if_pos h.isLt]
  have hr : (bigSep Finset.univ fun h : Fin 6 => recvSt (F := F) c l 6 h) = bigSep Finset.univ fun h : Fin 6 => semVal (recvCell h l c) 0 :=
    bigSep_congr fun h _ => by unfold recvSt; rw [if_pos h.isLt]
  rw [lane_x]
  show iprop((bigSep Finset.univ fun h : Fin 6 => sendSt (F := F) c l 6 6 h) ∗ (bigSep Finset.univ fun h : Fin 6 => recvSt (F := F) c l 6 h)
    ∗ xRest X c l ∗ endM X c l 6) ⊢ _
  rw [hs, hr]
  iintro ⟨Hs, Hr, HX, HM⟩
  ihave HM := (lane_end X c l) $$ HM
  icases HM with ⟨H0, Ho, Hb⟩
  isplitl [Hs]; · iexact Hs
  isplitl [Hr]; · iexact Hr
  isplitl [H0 HX]
  · isplitl [H0]; · iexact H0
    iexact HX
  isplitl [Ho]; · iexact Ho
  iexact Hb

theorem lanes_close (c : Dev nD) :
    (bigSep Finset.univ fun l : Fin 4 => Lane X c l ((![eSrc X c 0 6, eSrc X c 1 6, eSrc X c 2 6, eSrc X c 3 6] : Fin 4 → LP F) l))
      ⊢ iprop(own0 (F := F) c ∗ (((c : Thread nD τ).loc cc0_stg0_0) ↦{fullShare} X c) ∗ (((c : Thread nD τ).loc cc0_stg1_0) ↦{fullShare} OUT X) ∗ scr (F := F) c) := by
  have e : (fun l : Fin 4 => Lane X c l ((![eSrc X c 0 6, eSrc X c 1 6, eSrc X c 2 6, eSrc X c 3 6] : Fin 4 → LP F) l))
      = fun l => Lane X c l (eSrc X c l 6) := by funext l; fin_cases l <;> rfl
  rw [e]
  have g : (bigSep Finset.univ fun l : Fin 4 => Lane X c l (eSrc X c l 6))
      ⊢ iprop((bigSep Finset.univ fun l : Fin 4 => bigSep Finset.univ fun h : Fin 6 => semVal (sendCell h l c) 0)
        ∗ (bigSep Finset.univ fun l : Fin 4 => bigSep Finset.univ fun h : Fin 6 => semVal (recvCell h l c) 0)
        ∗ (bigSep Finset.univ fun l : Fin 4 => bigSep Finset.univ fun q : Fin 4 => blk c (xP q l) (xblk X c q l))
        ∗ (bigSep Finset.univ fun l : Fin 4 => bigSep Finset.univ fun q : Fin 4 => blk c (oP q l) (FIN X q l))
        ∗ bigSep Finset.univ fun l : Fin 4 => rsAny (F := F) c l) := by
    rw [← bigSep_sep', ← bigSep_sep', ← bigSep_sep', ← bigSep_sep']
    exact bigSep_mono fun l _ => lane_close X c l
  refine g.trans ?_
  unfold own0 Pipeline.ownSems0
  rw [over_slots]
  iintro ⟨Hs, Hr, Hx, Ho, Hb⟩
  isplitl [Hs Hr]
  · isplitl [Hs]; · iexact Hs
    iexact Hr
  isplitl [Hx]; · iapply (x_join X c); iexact Hx
  isplitl [Ho]; · iapply (out_join X c); iexact Ho
  unfold scr
  iapply (rs_join (F := F) c (fun _ => X c (fun a => ⟨0, by revert a; decide⟩)) (fun _ => X c (fun a => ⟨0, by revert a; decide⟩))); iexact Hb

/-- What a device holds at the body's end. -/
theorem end_of (K : Dev nD × (Unit ⊕ Slot) → ℕ) (c : Dev nD) :
    Sts X K c 24 (eSrc X c 0 6) (eSrc X c 1 6) (eSrc X c 2 6) (eSrc X c 3 6)
      ⊢ iprop(Φ₁ c ∗ (∃ W, owes (c : Thread nD τ) 0 W)
        ∗ (((c : Thread nD τ).loc cc0_stg0_0) ↦{fullShare} X c) ∗ (((c : Thread nD τ).loc cc0_stg1_0) ↦{fullShare} OUT X)) := by
  unfold Sts St Φ₁
  rw [show order.drop 24 = [] from rfl, show owedL c [] = 0 from rfl]
  iintro ⟨-, Hz, HO, HL⟩
  ihave HL := (lanes_close X c) $$ HL
  icases HL with ⟨Hown, Hx, Ho, Hb⟩
  isplitl [Hb Hown Hz]
  · isplitl [Hb]; · iexact Hb
    isplitl [Hown]; · iexact Hown
    iexact Hz
  isplitl [HO]; · iexact HO
  isplitl [Hx]; · iexact Hx
  iexact Ho

def bodyPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ c ∗ (dats m ρ 0 c).owesAt () t₀.succ ∗ stg c cc0_stg0_0 (xs m c) ∗ stg c cc0_stg1_0 (OUT (xs m)))

theorem body_run (c : Dev nD) :
    bodyPre m ρ c ⊢ wpc c (cc0_body (F := F) xM (Memref.isWhole_whole _) oM (Memref.isWhole_whole _)
      (Memref.whole cc0_scratch0) (Memref.isWhole_whole _) (Memref.whole cc0_scratch1) (Memref.isWhole_whole _) cc0_scratch2 cc0_scratch3)
      (fun _ => bodyPost m ρ c) := by
  rw [cc0_body_eq_skeleton]
  unfold bodyPre Φ₀ start G'
  iintro ⟨⟨⟨⟨%K, Hk, Hlin⟩, Hcr, Hlev⟩, Hscr⟩, Ho, ⟨%d0, %g0, %hg0, Hx⟩, ⟨%d1, %g1, %hg1, Hout⟩⟩
  have hx : g0 = xs m c := by rw [hg0]; unfold Dat.before; rw [if_pos (fetch0_0 t₀)]; rfl
  subst hx
  iapply (body_steps (xs m) K c (Q := fun _ => bodyPost m ρ c) (by
    refine (end_of (xs m) K c).trans ?_
    unfold bodyPost Dat.owesAt Pipeline.owesWithin
    rw [show (dats m ρ 0 c).owed t₀.succ = 0 from rfl]
    iintro ⟨HΦ, ⟨%W, HO⟩, Hx, Hout⟩
    isplitl [HΦ]; · iexact HΦ
    isplitl [HO]
    · iexists W; isplitr; · ipureintro; exact fun _ _ => Or.inl trivial
      iexact HO
    isplitl [Hx]
    · iexists _; isplitr; · ipureintro; rfl
      iexact Hx
    · iexists _; isplitr; · ipureintro; rfl
      iexact Hout))
  iapply (start_of (xs m) K c g1)
  isplitl [Hk]; · iexact Hk
  isplitl [Hlin]; · iexact Hlin
  isplitl [Hcr]; · iexact Hcr
  isplitl [Hlev]; · iexact Hlev
  isplitl [Hscr]; · iexact Hscr
  isplitl [Ho]
  · unfold Dat.owesAt Pipeline.owesWithin
    icases Ho with ⟨%W, -, HO⟩
    iexists W; iexact HO
  isplitl [Hx]; · iexact Hx
  iexact Hout

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body xM (Memref.isWhole_whole _) oM (Memref.isWhole_whole _)
      (Memref.whole cc0_scratch0) (Memref.isWhole_whole _) (Memref.whole cc0_scratch1) (Memref.isWhole_whole _) cc0_scratch2 cc0_scratch3)
    (fun _ => bodyPost m ρ c)
  exact body_run m ρ c

/-! ## The launch theorem's side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) c)
      ⊢ |={Set.univ}=> iprop(start m c ∗ emp) := by
  iintro ⟨-, Hlev, Hcr, -, HG⟩
  ihave Hc := (creds (F := F) c) $$ Hcr
  imodintro
  unfold start crs
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scr
  iintro ⟨Hr, Ho, HzB⟩
  isplitl [HzB]; · iexact HzB
  isplitl [Ho]; · iexact Ho
  iexact Hr

theorem O₀_pos {c : Dev nD} {g : GSem nD τ sig} {u : Unit} (h : 0 < O₀ c g u) : g.1.2 = .tc ∧ 0 < lvS g.2 := by
  unfold O₀ O₁ at h
  rw [Pi.add_apply, Finsupp.add_apply, Pi.add_apply, Finsupp.add_apply, tallyAt_apply, tallyAt_apply] at h
  by_cases h2 : g = barCell (fwd 2 c) ∧ u = ()
  · rw [h2.1]; exact ⟨rfl, Nat.one_pos⟩
  by_cases h0 : g = barCell (fwd 0 c) ∧ u = ()
  · rw [h0.1]; exact ⟨rfl, Nat.one_pos⟩
  rw [if_neg h2, if_neg h0] at h
  obtain ⟨i, -, rfl⟩ := owedL_pos (show 0 < owedL c order g u from h)
  refine ⟨rfl, ?_⟩
  show 0 < lvS (osem (true, i.1, i.2))
  rw [lv_recv]; omega

/-- The waits of the staging transfers: on cells below all that is owed at launch. -/
theorem mayWait_stage (c : Dev nD) (s : SemLoc sig) (hs : lvS s = 0) (O : CellTallies nD τ sig Unit) (hO : O = O₀ c ∨ O = 0) :
    (levAts L lv : sProp 𝕄) ⊢ MayWait (c : Thread nD τ) s () O := by
  rcases hO with rfl | rfl
  · exact MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; exact le_of_eq hs)
      (fun g u hg => (O₀_pos hg).2)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What an array of the kernel call holds on device `c` after the run: `x` (0) or the result (1). -/
def finalA (c : Dev nD) (w : Fin cfg0.W) : Buf (Elt F) ((cfg0.win w).arr.view.loc (c : Thread nD τ)) := (dats m ρ 0 c).arrAt w cfg0.N

/-- Every device's two arrays hold that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On four devices, for any float values, from any memory with zero counters, every weakly fair run of the program terminates,
    with the arrays of the kernel call at their computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m)) (G' := G' (xs m)) (u₀ := u₀)
    (hu₀ := by
      unfold u₀
      iintro Hu
      ihave H := (ownU_pair _ _) $$ Hu
      icases H with ⟨HP, HX⟩
      imod (fund_ring (xs m)) $$ HX with HG
      imodintro
      isplitl [HP] <;> iassumption)
    (hglob := glob (xs m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _
/-- The result array, read as one block, holds the result. -/
theorem finalA_o (c : Dev nD) : (win0_1.blk (0 : Fin 1)).view.read (Elt F) (finalA m ρ c (1 : Fin 2)) = OUT (xs m) := by
  have h := ((dats (F := F) m ρ 0 c).arrAt_succ (1 : Fin 2) (0 : Fin 1)).trans (if_pos (flush0_1 (0 : Fin 1)))
  exact (congrArg ((win0_1.blk (0 : Fin 1)).view.read (Elt F)) h).trans (View.read_write_univ _ _)

end Cert.RingReduce

end
-- ==== Proof.Same.lean ====
/-
# The program and its idealization are one text

No rewrite was made on the way to the idealization, so both programs declare the same buffers and run the same body. Here
they are shown equal, and the run of the idealization is read back as the run of the program.
-/
module

public import proofs.«01_k».proof.Proof.Launch
public import proofs.«01_k».proof.Proof.Gen.Kernel

@[expose] public section

set_option maxRecDepth 65536

namespace Cert.RingReduce

open Idealize.ShloMosaic Idealize.SL.Sem

variable {F : FTy → Type} [FloatOps F]

/-- The two kernel bodies are the same program. -/
theorem body_eq : @Cert.Kernel.cc0_body F _ Cert.Kernel.Gen.facts = @Cert.KernelIdeal.cc0_body F _ Cert.KernelIdeal.Gen.facts := by rfl

/-- The definitions of the one kernel call are the same. -/
theorem defs0_eq : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext ℓ a
  match ℓ, a with
  | 0, (t, s) =>
    exact congrFun (congrFun (congrFun (congrFun (congrFun (congrFun (congrFun (congrFun (congrFun (congrFun body_eq _) _) _) _) _) _) _) _) _) _

/-- All definitions of the two programs are the same. -/
theorem defs_eq : @Cert.Kernel.defs F _ Cert.Kernel.Gen.facts = @Cert.KernelIdeal.defs F _ Cert.KernelIdeal.Gen.facts := by
  unfold Cert.Kernel.defs Cert.KernelIdeal.defs
  rw [defs0_eq]
  rfl

/-- The run of the idealization: it ends, every device's block of `x` is what it was, every counter is zero. -/
theorem run_ideal (m : (ℓ : Loc Cert.KernelIdeal.nD Cert.KernelIdeal.τ Cert.KernelIdeal.sig) → Buf (Elt F) ℓ) (ρ : Dev Cert.KernelIdeal.nD → PrngReg) :
    θ_run (@Cert.KernelIdeal.defs F _ Cert.KernelIdeal.Gen.facts) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
        ∧ r.2.sem = fun _ => 0) :=
  (θ_run _ _ _).mono (fun _ h => ⟨fun c => (h.1 c (0 : Fin 2)).trans (finalA_x m ρ c), h.2⟩) (run_main m ρ)

/-- The same of the program itself. -/
theorem run_program (m : (ℓ : Loc Cert.Kernel.nD Cert.Kernel.τ Cert.Kernel.sig) → Buf (Elt F) ℓ) (ρ : Dev Cert.Kernel.nD → PrngReg) :
    θ_run (@Cert.Kernel.defs F _ Cert.Kernel.Gen.facts) (onTc (τ := Cert.Kernel.τ) (Cert.Kernel.main (F := F)))
      ⟨m, fun _ => 0, ρ⟩ (fun r => (∀ c : Dev Cert.Kernel.nD,
        r.2.mem ((c.tc : Thread Cert.Kernel.nD Cert.Kernel.τ).loc Cert.Kernel.main_arg0)
          = m ((c.tc : Thread Cert.Kernel.nD Cert.Kernel.τ).loc Cert.Kernel.main_arg0))
        ∧ r.2.sem = fun _ => 0) := by
  rw [defs_eq]
  exact run_ideal m ρ

end Cert.RingReduce

end
-- ==== Proof.Value.lean ====
/-
# The values

What the ring leaves in the result is, over the extended reals, the sum of the four devices' blocks; and so is what the
reference computes from the whole array.
-/
module

public import proofs.«01_k».proof.Proof.Launch
public import proofs.«01_k».proof.Proof.Gen.ReferenceIdeal.Run
public import Idealize.ShloMosaic.Lib.Layout
public import Idealize.ShloMosaic.PureOps.Ideal
public import Idealize.ShloMosaic.PureOps.Ideal.Laws

@[expose] public section

noncomputable section

namespace Cert.RingReduce

open Cert.KernelIdeal Cert.KernelIdeal.Gen
open Idealize.ShloMosaic Idealize.ShloMosaic.TcCoe

/-! ## The kernel's sum -/

/-- Going round the ring from any device, in either direction, meets every device once. -/
theorem turn_bijective (l : Fin 4) (q : Dev nD) : Function.Bijective fun k : Fin 4 => (bwd l)^[4 - k.val] q := by
  revert l q; decide

/-- A sum over the devices, taken in the order in which the ring meets them. -/
theorem sum_turn (l : Fin 4) (q : Dev nD) (Y : Dev nD → EReal) :
    Y (bwd l (bwd l (bwd l (bwd l q)))) + Y (bwd l (bwd l (bwd l q))) + Y (bwd l (bwd l q)) + Y (bwd l q) = ∑ c, Y c := by
  rw [← (turn_bijective l q).sum_comp Y, Fin.sum_univ_four]
  rfl

/-- The chunk that starts at device `q`, seen from the four devices on its way. -/
theorem chk_way (l q : Fin 4) :
    chk l 3 (bwd l q) = q ∧ chk l 2 (bwd l (bwd l q)) = q ∧ chk l 1 (bwd l (bwd l (bwd l q))) = q
      ∧ chk l 0 (bwd l (bwd l (bwd l (bwd l q)))) = q := by
  revert l q; decide

/-- A block of the staged `x`, at an index's place in its block, is the staged `x` at the index. -/
theorem xblk_inIx {F : FTy → Type} (X : Dev nD → (cc0_stg0_0 : Ref sig .tc).ty.Contents (Elt F)) (c : Dev nD) (i : S2048x1024.Idx) :
    xblk X c (rowQ i) (colL i) (inIx i) = X c i :=
  congrArg (X c) (emb_inIx i)

/-- Each element of the result is the sum over the devices of that element of their blocks. -/
theorem OUT_ideal (X : Dev nD → (cc0_stg0_0 : Ref sig .tc).ty.Contents (Elt Ideal)) (i : S2048x1024.Idx) :
    OUT X i = (∑ c, (X c i : EReal) : EReal) := by
  obtain ⟨h3, h2, h1, h0⟩ := chk_way (colL i) (rowQ i)
  rw [← sum_turn (colL i) (rowQ i) fun c => X c i]
  show (xblk X _ (chk (colL i) 0 _) (colL i) (inIx i) + xblk X _ (chk (colL i) 1 _) (colL i) (inIx i)
    + xblk X _ (chk (colL i) 2 _) (colL i) (inIx i) + xblk X _ (chk (colL i) 3 _) (colL i) (inIx i) : EReal) = _
  rw [h3, h2, h1, h0, xblk_inIx, xblk_inIx, xblk_inIx, xblk_inIx]

/-! ## The reference's sum -/

/-- Device `c`'s rows lie in the whole array as four equal runs of rows. -/
theorem tiles : Layout.Tiles ⟨2, ![2048, 1024]⟩ ⟨2, ![8192, 1024]⟩ 0 4 := by decide

/-- The index of slab `c` and place `j` in the array cut into four slabs. -/
def slab (c : Fin 4) (j : Cert.ReferenceIdeal.S2048x1024.Idx) : Cert.ReferenceIdeal.S4x2048x1024.Idx := Fin.cons c j

/-- The slab and place of an index of that array. -/
theorem slab_eta (i : Cert.ReferenceIdeal.S4x2048x1024.Idx) :
    slab (i 0) (Cert.ReferenceIdeal.Gen.reducesTo_S4x2048x1024_S2048x1024_d0.drop i) = i := by
  funext a
  match a with
  | ⟨0, _⟩ => rfl
  | ⟨1, _⟩ => rfl
  | ⟨2, _⟩ => rfl

/-- Forgetting the slab leaves the place. -/
theorem drop_slab (c : Fin 4) (j : Cert.ReferenceIdeal.S2048x1024.Idx) :
    Cert.ReferenceIdeal.Gen.reducesTo_S4x2048x1024_S2048x1024_d0.drop (slab c j) = j := by
  funext a
  match a with
  | ⟨0, _⟩ => rfl
  | ⟨1, _⟩ => rfl

/-- The whole array cut into four slabs: slab `c` is device `c`'s block. -/
theorem cut_slab (x : Cert.ReferenceIdeal.S8192x1024.Idx → Ideal .f32) (c : Fin 4) (j : Cert.ReferenceIdeal.S2048x1024.Idx) :
    shapeCast Cert.ReferenceIdeal.S4x2048x1024 x Cert.ReferenceIdeal.Gen.shapeCasts_S8192x1024_S4x2048x1024 (slab c j)
      = Layout.block ⟨2, ![2048, 1024]⟩ ⟨2, ![8192, 1024]⟩ 0 4 c x tiles j := by
  refine congrArg x (Shape.reshapeEquiv_eq_of_rowMajor _ ?_)
  show (Shape.rowMajorPi Cert.ReferenceIdeal.S8192x1024.size (tiles.idx c j)).val
    = (Shape.rowMajorPi Cert.ReferenceIdeal.S4x2048x1024.size (slab c j)).val
  have r0 : (tiles.idx c j 0).val = c.val * 2048 + (j 0).val := rfl
  have r1 : (tiles.idx c j 1).val = (j 1).val := rfl
  have s0 : (slab c j 0).val = c.val := rfl
  have s1 : (slab c j 1).val = (j 0).val := rfl
  have s2 : (slab c j 2).val = (j 1).val := rfl
  simp only [Shape.rowMajorPi_succ_val, Shape.rowMajorPi_zero, Fin.prod_univ_succ]
  simp [r0, r1, s0, s1, s2]
  omega

/-- What the reference computes of the whole array. -/
abbrev refSum (x : Cert.ReferenceIdeal.S8192x1024.Idx → Ideal .f32) : Cert.ReferenceIdeal.S2048x1024.Idx → Ideal .f32 :=
  Host.reduceAdd (shapeCast Cert.ReferenceIdeal.S4x2048x1024 x Cert.ReferenceIdeal.Gen.shapeCasts_S8192x1024_S4x2048x1024)
    (constant Cert.ReferenceIdeal.S_ .f32 0x00000000#32) Cert.ReferenceIdeal.Gen.reducesTo_S4x2048x1024_S2048x1024_d0
    Cert.ReferenceIdeal.Gen.h_S_

/-- Each element of the reference's result is the sum over the devices of that element of their blocks. -/
theorem refSum_ideal (x : Cert.ReferenceIdeal.S8192x1024.Idx → Ideal .f32) (j : Cert.ReferenceIdeal.S2048x1024.Idx) :
    refSum x j = (∑ c : Fin 4, (Layout.block ⟨2, ![2048, 1024]⟩ ⟨2, ![8192, 1024]⟩ 0 4 c x tiles j : EReal) : EReal) := by
  show (Ideal.ofBits .f32 0x00000000#32 + ∑ i ∈ Finset.univ.filter
      (fun i => Cert.ReferenceIdeal.Gen.reducesTo_S4x2048x1024_S2048x1024_d0.drop i = j),
      shapeCast Cert.ReferenceIdeal.S4x2048x1024 x Cert.ReferenceIdeal.Gen.shapeCasts_S8192x1024_S4x2048x1024 i : EReal) = _
  rw [Ideal.ofBits_zero_f32, zero_add]
  refine (Finset.sum_bij' (fun c _ => slab c j) (fun i _ => i 0) ?_ ?_ ?_ ?_ ?_).symm
  · intro c _; exact Finset.mem_filter.mpr ⟨Finset.mem_univ _, drop_slab c j⟩
  · intro i _; exact Finset.mem_univ _
  · intro c _; rfl
  · intro i hi
    obtain rfl := (Finset.mem_filter.mp hi).2
    exact slab_eta i
  · intro c _; exact (cut_slab x c j).symm

/-! ## The two agree -/

variable (m : (ℓ : Loc nD τ sig) → Buf (Elt Ideal) ℓ) (ρ : Dev nD → PrngReg)

/-- The staged `x` of a device is its block of `x`. -/
theorem xs_eq (c : Dev nD) : xs m c = m (c.tc.loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- After the run every device's result array is what the ring leaves. -/
theorem result_eq (c : Dev nD) : finalA m ρ c 1 = OUT (xs m) := by
  have hz : (fun a => (win0_1.index (0 : Fin 1)) a * main_v1.ty.shape.size a) = fun _ => 0 :=
    funext fun a => by fin_cases a <;> decide
  exact (Memref.read_access_unit_zero (Elt Ideal) main_v1 hz (fun a => by fin_cases a <;> decide) _).symm.trans (finalA_o m ρ c)

/-- If every device holds its block of the reference's whole array, every device's result is the reference's. -/
theorem result_ideal (x : Cert.ReferenceIdeal.S8192x1024.Idx → Ideal .f32)
    (h : ∀ c : Dev nD, m (c.tc.loc main_arg0) = Layout.block ⟨2, ![2048, 1024]⟩ ⟨2, ![8192, 1024]⟩ 0 4 c x tiles) (c : Dev nD) :
    finalA m ρ c 1 = refSum x := by
  rw [result_eq]
  funext i
  have e : ∀ d : Dev nD, xs m d i = Layout.block ⟨2, ![2048, 1024]⟩ ⟨2, ![8192, 1024]⟩ 0 4 d x tiles i := fun d => by rw [xs_eq, h d]
  have hs : (∑ d : Dev nD, (xs m d i : EReal) : EReal)
      = ∑ d : Fin 4, (Layout.block ⟨2, ![2048, 1024]⟩ ⟨2, ![8192, 1024]⟩ 0 4 d x tiles i : EReal) :=
    Finset.sum_congr rfl fun d _ => e d
  exact (OUT_ideal (xs m) i).trans (hs.trans (refSum_ideal x i).symm)

end Cert.RingReduce

end
-- ==== Proof.lean ====
/-
# The claims

`Cert.Claim`: the program, its idealization and the reference all run, leave their arguments as they were and every
semaphore counter at zero; the idealization rewrites nothing; and at the extended reals every device's result is the
reference's. The parts are proved in the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.SL.Sem Cert.RingReduce

/-- The program ends on every device, its argument unchanged and every counter at zero. -/
theorem frame_program : Cert.quiescent_Kernel := by
  intro m ρ _
  exact run_program (F := Bits) m ρ

/-- So does its idealization. -/
theorem frame_ideal : Cert.quiescent_KernelIdeal := by
  intro m ρ _
  exact run_ideal (F := Ideal) m ρ

/-- So does the reference, which has no semaphore. -/
theorem frame_reference : Cert.quiescent_ReferenceIdeal := by
  intro m ρ _
  exact (θ_run _ _ _).mono (fun r h => ⟨fun c => (h c).2, sem_eq_zero_of_no_sems (by decide) r.2⟩)
    (Cert.ReferenceIdeal.Value.run (F := Ideal) m ρ)

/-- At the extended reals, when every device holds its block of the whole array, every device's result is the reference's
    result of the whole array. -/
theorem values : Cert.algebraic_KernelIdeal_ReferenceIdeal := by
  intro m ρ m' ρ' _ h
  refine ⟨refSum (m' (((0 : Dev Cert.ReferenceIdeal.nD).tc : Thread _ Cert.ReferenceIdeal.τ).loc Cert.ReferenceIdeal.main_arg0)), ?_, ?_⟩
  · exact (θ_run _ _ _).mono (fun _ r c => ⟨(r.1 c (1 : Fin 2)).trans (result_ideal m ρ _ h c), (r.1 c (0 : Fin 2)).trans (finalA_x m ρ c)⟩)
      (run_main (F := Ideal) m ρ)
  · exact (θ_run _ _ _).mono (fun _ r => r 0) (Cert.ReferenceIdeal.Value.run (F := Ideal) m' ρ')

/-- All five claims. -/
theorem claim : Cert.Claim :=
  ⟨Cert.Kernel.Gen.facts, Cert.KernelIdeal.Gen.facts, Cert.ReferenceIdeal.Gen.facts,
    frame_program, frame_ideal, frame_reference, trivial, values⟩

end Cert.Proof

end
